-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x2048 : Shape := ⟨2, ![1024, 2048]⟩
abbrev S2048x16384 : Shape := ⟨2, ![2048, 16384]⟩
abbrev S_ : Shape := ⟨0, ![]⟩

class Facts : Prop where
  bitsLt_bf16_f32 : FTy.bits .bf16 < FTy.bits .f32
  bcast_S_S1024x2048 : S_.BroadcastsInDim S1024x2048 (![] : Fin 0 → Fin S1024x2048.rank)
  bcast_S_S2048x16384 : S_.BroadcastsInDim S2048x16384 (![] : Fin 0 → Fin S2048x16384.rank)

variable [Facts]

def fn {F : FTy → Type} [FloatOps F] (main_arg0 : FVec F S1024x2048 .bf16) (main_arg1 : FVec F S2048x16384 .f32) : IVec S1024x2048 1 × IVec S2048x16384 1 :=
  let main_v0 : FVec F S1024x2048 .f32 := (extf .f32 · bitsLt_bf16_f32) main_arg0
  let main_v1 : FVec F S1024x2048 .f32 := Host.absf main_v0
  let main_cst : FVec F S_ .f32 := constant S_ .f32 0x7F800000#32
  let main_v2 : FVec F S1024x2048 .f32 := broadcastInDim S1024x2048 ![] bcast_S_S1024x2048 main_cst
  let main_v3 : IVec S1024x2048 1 := cmpf .olt main_v1 main_v2
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  (main_v3, main_v6)
-- ==== Pre_finite_ReferenceIdeal.lean ====
abbrev S1024x2048 : Shape := ⟨2, ![1024, 2048]⟩
abbrev S2048x32768 : Shape := ⟨2, ![2048, 32768]⟩
abbrev S_ : Shape := ⟨0, ![]⟩

class Facts : Prop where
  bitsLt_bf16_f32 : FTy.bits .bf16 < FTy.bits .f32
  bcast_S_S1024x2048 : S_.BroadcastsInDim S1024x2048 (![] : Fin 0 → Fin S1024x2048.rank)
  bcast_S_S2048x32768 : S_.BroadcastsInDim S2048x32768 (![] : Fin 0 → Fin S2048x32768.rank)

variable [Facts]

def fn {F : FTy → Type} [FloatOps F] (main_arg0 : FVec F S1024x2048 .bf16) (main_arg1 : FVec F S2048x32768 .f32) : IVec S1024x2048 1 × IVec S2048x32768 1 :=
  let main_v0 : FVec F S1024x2048 .f32 := (extf .f32 · bitsLt_bf16_f32) main_arg0
  let main_v1 : FVec F S1024x2048 .f32 := Host.absf main_v0
  let main_cst : FVec F S_ .f32 := constant S_ .f32 0x7F800000#32
  let main_v2 : FVec F S1024x2048 .f32 := broadcastInDim S1024x2048 ![] bcast_S_S1024x2048 main_cst
  let main_v3 : IVec S1024x2048 1 := cmpf .olt main_v1 main_v2
  let main_v4 : FVec F S2048x32768 .f32 := Host.absf main_arg1
  let main_cst_0 : FVec F S_ .f32 := constant S_ .f32 0x7F800000#32
  let main_v5 : FVec F S2048x32768 .f32 := broadcastInDim S2048x32768 ![] bcast_S_S2048x32768 main_cst_0
  let main_v6 : IVec S2048x32768 1 := cmpf .olt main_v4 main_v5
  (main_v3, main_v6)
-- ==== Kernel.lean ====
abbrev S1024x2048 : Shape := ⟨2, ![1024, 2048]⟩
abbrev S2048x16384 : Shape := ⟨2, ![2048, 16384]⟩
abbrev S1024x32768 : Shape := ⟨2, ![1024, 32768]⟩
abbrev S16x1024x512 : Shape := ⟨3, ![16, 1024, 512]⟩
abbrev S32x1024x512 : Shape := ⟨3, ![32, 1024, 512]⟩
abbrev S2x2048x512 : Shape := ⟨3, ![2, 2048, 512]⟩
abbrev S2x1024x1024 : Shape := ⟨3, ![2, 1024, 1024]⟩
abbrev S2x2x1024x512 : Shape := ⟨4, ![2, 2, 1024, 512]⟩
abbrev S1024x128 : Shape := ⟨2, ![1024, 128]⟩
abbrev S16 : Shape := ⟨1, ![16]⟩
abbrev S_ : Shape := ⟨0, ![]⟩
abbrev S2 : Shape := ⟨1, ![2]⟩
abbrev S1 : Shape := ⟨1, ![1]⟩
abbrev S1x2048x512 : Shape := ⟨3, ![1, 2048, 512]⟩
abbrev S2048x512 : Shape := ⟨2, ![2048, 512]⟩
abbrev S1024x512 : Shape := ⟨2, ![1024, 512]⟩
abbrev S1x1024x512 : Shape := ⟨3, ![1, 1024, 512]⟩
abbrev S1024 : Shape := ⟨1, ![1024]⟩
abbrev S1024x1 : Shape := ⟨2, ![1024, 1]⟩
abbrev S1024x1024 : Shape := ⟨2, ![1024, 1024]⟩
abbrev S1x1024x1024 : Shape := ⟨3, ![1, 1024, 1024]⟩
abbrev S1x2x1024x512 : Shape := ⟨4, ![1, 2, 1024, 512]⟩
abbrev S2x1024x512 : Shape := ⟨3, ![2, 1024, 512]⟩
abbrev S1x1x1024x512 : Shape := ⟨4, ![1, 1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .bf16⟩
  | .hbm, ⟨1, _⟩ => ⟨S2048x16384, .f32⟩
  | .hbm, ⟨2, _⟩ => ⟨S1024x32768, .bf16⟩
  | .hbm, ⟨3, _⟩ => ⟨S16x1024x512, .bf16⟩
  | .hbm, ⟨4, _⟩ => ⟨S16x1024x512, .bf16⟩
  | .local _ .vmem, ⟨0, _⟩ => ⟨S1024x2048, .bf16⟩
  | .local _ .vmem, ⟨1, _⟩ => ⟨S32x1024x512, .bf16⟩
  | .local _ .vmem, ⟨2, _⟩ => ⟨S2x2048x512, .f32⟩
  | .local _ .vmem, ⟨3, _⟩ => ⟨S2x1024x1024, .bf16⟩
  | .local _ .vmem, ⟨4, _⟩ => ⟨S2x2x1024x512, .bf16⟩
  | .local _ .vmem, ⟨5, _⟩ => ⟨S1024x128, .f32⟩
  | .local _ .vmem, ⟨6, _⟩ => ⟨S1024x128, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_7 : BitVec 32 := 2#32
  let v14 : BitVec 32 := Scalar.muli v9 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v22 : BitVec 32 := Scalar.muli v10 c1_i32_13
  let v23 : BitVec 32 := Scalar.addi v21 v22
  v23.toNat
def k0_off1 (d0 : Dev nD) (c0_i32_17 : BitVec 32) : Fin 2 → Nat :=
  let c0_i32_22 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16_i32 : BitVec 32 := 16#32
  let v24 : BitVec 32 := Scalar.muli v8 c16_i32
  let v27 : BitVec 32 := Scalar.addi v24 c0_i32_17
  let c512_i32 : BitVec 32 := 512#32
  let v28 : BitVec 32 := Scalar.muli v27 c512_i32
  ![0, v28.toNat]
def k0_dev3 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v59 : BitVec 32 := Scalar.muli v2 c4_i32_47
  let v60 : BitVec 32 := Scalar.addi c0_i32_48 v59
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_49 : BitVec 32 := 2#32
  let v61 : BitVec 32 := Scalar.muli v9 c2_i32_49
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v63 : BitVec 32 := Scalar.muli v8 c1_i32_50
  let v64 : BitVec 32 := Scalar.addi v62 v63
  v64.toNat
def k0_dev4 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v97 : BitVec 32 := Scalar.muli v2 c4_i32_79
  let v98 : BitVec 32 := Scalar.addi c0_i32_80 v97
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_81 : BitVec 32 := 2#32
  let v99 : BitVec 32 := Scalar.muli v9 c2_i32_81
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v101 : BitVec 32 := Scalar.muli v8 c1_i32_82
  let v102 : BitVec 32 := Scalar.addi v100 v101
  v102.toNat
def k0_dev5 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v135 : BitVec 32 := Scalar.muli v2 c4_i32_110
  let v136 : BitVec 32 := Scalar.addi c0_i32_111 v135
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_112 : BitVec 32 := 2#32
  let v137 : BitVec 32 := Scalar.muli v9 c2_i32_112
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v139 : BitVec 32 := Scalar.muli v8 c1_i32_113
  let v140 : BitVec 32 := Scalar.addi v138 v139
  v140.toNat
def k0_dev6 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v173 : BitVec 32 := Scalar.muli v2 c4_i32_142
  let v174 : BitVec 32 := Scalar.addi c0_i32_143 v173
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_144 : BitVec 32 := 2#32
  let v175 : BitVec 32 := Scalar.muli v9 c2_i32_144
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v177 : BitVec 32 := Scalar.muli v8 c1_i32_145
  let v178 : BitVec 32 := Scalar.addi v176 v177
  v178.toNat
def k0_dev7 (d0 : Dev nD) : Nat :=
  let c0_i32_174 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_173 : BitVec 32 := 4#32
  let v211 : BitVec 32 := Scalar.muli v2 c4_i32_173
  let v212 : BitVec 32 := Scalar.addi c0_i32_174 v211
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_175 : BitVec 32 := 2#32
  let v213 : BitVec 32 := Scalar.muli v9 c2_i32_175
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v215 : BitVec 32 := Scalar.muli v8 c1_i32_176
  let v216 : BitVec 32 := Scalar.addi v214 v215
  v216.toNat
def k0_dev8 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v249 : BitVec 32 := Scalar.muli v2 c4_i32_204
  let v250 : BitVec 32 := Scalar.addi c0_i32_205 v249
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_206 : BitVec 32 := 2#32
  let v251 : BitVec 32 := Scalar.muli v9 c2_i32_206
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v253 : BitVec 32 := Scalar.muli v8 c1_i32_207
  let v254 : BitVec 32 := Scalar.addi v252 v253
  v254.toNat
def k0_dev9 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v287 : BitVec 32 := Scalar.muli v2 c4_i32_235
  let v288 : BitVec 32 := Scalar.addi c0_i32_236 v287
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_237 : BitVec 32 := 2#32
  let v289 : BitVec 32 := Scalar.muli v9 c2_i32_237
  let v290 : BitVec 32 := Scalar.addi v288 v289
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v291 : BitVec 32 := Scalar.muli v8 c1_i32_238
  let v292 : BitVec 32 := Scalar.addi v290 v291
  v292.toNat
def k0_dev10 (d0 : Dev nD) : Nat :=
  let c0_i32_267 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_266 : BitVec 32 := 4#32
  let v325 : BitVec 32 := Scalar.muli v2 c4_i32_266
  let v326 : BitVec 32 := Scalar.addi c0_i32_267 v325
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_268 : BitVec 32 := 2#32
  let v327 : BitVec 32 := Scalar.muli v9 c2_i32_268
  let v328 : BitVec 32 := Scalar.addi v326 v327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_269 : BitVec 32 := 1#32
  let v329 : BitVec 32 := Scalar.muli v8 c1_i32_269
  let v330 : BitVec 32 := Scalar.addi v328 v329
  v330.toNat
def k0_dev11 (d0 : Dev nD) : Nat :=
  let c0_i32_298 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_297 : BitVec 32 := 4#32
  let v363 : BitVec 32 := Scalar.muli v2 c4_i32_297
  let v364 : BitVec 32 := Scalar.addi c0_i32_298 v363
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_299 : BitVec 32 := 2#32
  let v365 : BitVec 32 := Scalar.muli v9 c2_i32_299
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v367 : BitVec 32 := Scalar.muli v8 c1_i32_300
  let v368 : BitVec 32 := Scalar.addi v366 v367
  v368.toNat
def k0_dev12 (d0 : Dev nD) : Nat :=
  let c0_i32_329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_328 : BitVec 32 := 4#32
  let v401 : BitVec 32 := Scalar.muli v2 c4_i32_328
  let v402 : BitVec 32 := Scalar.addi c0_i32_329 v401
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_330 : BitVec 32 := 2#32
  let v403 : BitVec 32 := Scalar.muli v9 c2_i32_330
  let v404 : BitVec 32 := Scalar.addi v402 v403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_331 : BitVec 32 := 1#32
  let v405 : BitVec 32 := Scalar.muli v8 c1_i32_331
  let v406 : BitVec 32 := Scalar.addi v404 v405
  v406.toNat
def k0_dev13 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v439 : BitVec 32 := Scalar.muli v2 c4_i32_359
  let v440 : BitVec 32 := Scalar.addi c0_i32_360 v439
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_361 : BitVec 32 := 2#32
  let v441 : BitVec 32 := Scalar.muli v9 c2_i32_361
  let v442 : BitVec 32 := Scalar.addi v440 v441
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_362 : BitVec 32 := 1#32
  let v443 : BitVec 32 := Scalar.muli v8 c1_i32_362
  let v444 : BitVec 32 := Scalar.addi v442 v443
  v444.toNat
def k0_dev14 (d0 : Dev nD) : Nat :=
  let c0_i32_391 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_390 : BitVec 32 := 4#32
  let v477 : BitVec 32 := Scalar.muli v2 c4_i32_390
  let v478 : BitVec 32 := Scalar.addi c0_i32_391 v477
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_392 : BitVec 32 := 2#32
  let v479 : BitVec 32 := Scalar.muli v9 c2_i32_392
  let v480 : BitVec 32 := Scalar.addi v478 v479
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_393 : BitVec 32 := 1#32
  let v481 : BitVec 32 := Scalar.muli v8 c1_i32_393
  let v482 : BitVec 32 := Scalar.addi v480 v481
  v482.toNat
def k0_dev15 (d0 : Dev nD) : Nat :=
  let c0_i32_422 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_421 : BitVec 32 := 4#32
  let v515 : BitVec 32 := Scalar.muli v2 c4_i32_421
  let v516 : BitVec 32 := Scalar.addi c0_i32_422 v515
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_423 : BitVec 32 := 2#32
  let v517 : BitVec 32 := Scalar.muli v9 c2_i32_423
  let v518 : BitVec 32 := Scalar.addi v516 v517
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_424 : BitVec 32 := 1#32
  let v519 : BitVec 32 := Scalar.muli v8 c1_i32_424
  let v520 : BitVec 32 := Scalar.addi v518 v519
  v520.toNat
def k0_dev16 (d0 : Dev nD) : Nat :=
  let c0_i32_453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_452 : BitVec 32 := 4#32
  let v553 : BitVec 32 := Scalar.muli v2 c4_i32_452
  let v554 : BitVec 32 := Scalar.addi c0_i32_453 v553
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_454 : BitVec 32 := 2#32
  let v555 : BitVec 32 := Scalar.muli v9 c2_i32_454
  let v556 : BitVec 32 := Scalar.addi v554 v555
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_455 : BitVec 32 := 1#32
  let v557 : BitVec 32 := Scalar.muli v8 c1_i32_455
  let v558 : BitVec 32 := Scalar.addi v556 v557
  v558.toNat
def k0_dev17 (d0 : Dev nD) : Nat :=
  let c0_i32_484 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_483 : BitVec 32 := 4#32
  let v591 : BitVec 32 := Scalar.muli v2 c4_i32_483
  let v592 : BitVec 32 := Scalar.addi c0_i32_484 v591
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_485 : BitVec 32 := 2#32
  let v593 : BitVec 32 := Scalar.muli v9 c2_i32_485
  let v594 : BitVec 32 := Scalar.addi v592 v593
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_486 : BitVec 32 := 1#32
  let v595 : BitVec 32 := Scalar.muli v8 c1_i32_486
  let v596 : BitVec 32 := Scalar.addi v594 v595
  v596.toNat
def k0_off2 (d0 : Dev nD) (c0_i32_496 : BitVec 32) : Fin 2 → Nat :=
  let c0_i32_502 : BitVec 32 := 0#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let c16_i32_16 : BitVec 32 := 16#32
  let v26 : BitVec 32 := Scalar.muli v25 c16_i32_16
  let v610 : BitVec 32 := Scalar.addi v26 c0_i32_496
  let c512_i32_497 : BitVec 32 := 512#32
  let v611 : BitVec 32 := Scalar.muli v610 c512_i32_497
  ![0, v611.toNat]
def k0_dev18 (d0 : Dev nD) : Nat :=
  let c0_i32_516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_515 : BitVec 32 := 4#32
  let v629 : BitVec 32 := Scalar.muli v2 c4_i32_515
  let v630 : BitVec 32 := Scalar.addi c0_i32_516 v629
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_517 : BitVec 32 := 2#32
  let v631 : BitVec 32 := Scalar.muli v9 c2_i32_517
  let v632 : BitVec 32 := Scalar.addi v630 v631
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_518 : BitVec 32 := 1#32
  let v633 : BitVec 32 := Scalar.muli v8 c1_i32_518
  let v634 : BitVec 32 := Scalar.addi v632 v633
  v634.toNat
def k0_dev19 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v655 : BitVec 32 := Scalar.muli v2 c4_i32_539
  let v656 : BitVec 32 := Scalar.addi c0_i32_540 v655
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v657 : BitVec 32 := Scalar.muli v5 c2_i32_541
  let v658 : BitVec 32 := Scalar.addi v656 v657
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_542 : BitVec 32 := 1#32
  let v659 : BitVec 32 := Scalar.muli v10 c1_i32_542
  let v660 : BitVec 32 := Scalar.addi v658 v659
  v660.toNat
def k0_dev20 (d0 : Dev nD) : Nat :=
  let c0_i32_584 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_583 : BitVec 32 := 4#32
  let v705 : BitVec 32 := Scalar.muli v2 c4_i32_583
  let v706 : BitVec 32 := Scalar.addi c0_i32_584 v705
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_585 : BitVec 32 := 2#32
  let v707 : BitVec 32 := Scalar.muli v5 c2_i32_585
  let v708 : BitVec 32 := Scalar.addi v706 v707
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_586 : BitVec 32 := 1#32
  let v709 : BitVec 32 := Scalar.muli v10 c1_i32_586
  let v710 : BitVec 32 := Scalar.addi v708 v709
  v710.toNat
def k0_dev21 (d0 : Dev nD) : Nat :=
  let c0_i32_628 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_627 : BitVec 32 := 4#32
  let v755 : BitVec 32 := Scalar.muli v2 c4_i32_627
  let v756 : BitVec 32 := Scalar.addi c0_i32_628 v755
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_629 : BitVec 32 := 2#32
  let v757 : BitVec 32 := Scalar.muli v5 c2_i32_629
  let v758 : BitVec 32 := Scalar.addi v756 v757
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_630 : BitVec 32 := 1#32
  let v759 : BitVec 32 := Scalar.muli v10 c1_i32_630
  let v760 : BitVec 32 := Scalar.addi v758 v759
  v760.toNat
def k0_dev22 (d0 : Dev nD) : Nat :=
  let c0_i32_672 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_671 : BitVec 32 := 4#32
  let v805 : BitVec 32 := Scalar.muli v2 c4_i32_671
  let v806 : BitVec 32 := Scalar.addi c0_i32_672 v805
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_673 : BitVec 32 := 2#32
  let v807 : BitVec 32 := Scalar.muli v5 c2_i32_673
  let v808 : BitVec 32 := Scalar.addi v806 v807
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_674 : BitVec 32 := 1#32
  let v809 : BitVec 32 := Scalar.muli v10 c1_i32_674
  let v810 : BitVec 32 := Scalar.addi v808 v809
  v810.toNat
def k0_dev23 (d0 : Dev nD) : Nat :=
  let c0_i32_716 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_715 : BitVec 32 := 4#32
  let v855 : BitVec 32 := Scalar.muli v2 c4_i32_715
  let v856 : BitVec 32 := Scalar.addi c0_i32_716 v855
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_717 : BitVec 32 := 2#32
  let v857 : BitVec 32 := Scalar.muli v5 c2_i32_717
  let v858 : BitVec 32 := Scalar.addi v856 v857
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_718 : BitVec 32 := 1#32
  let v859 : BitVec 32 := Scalar.muli v10 c1_i32_718
  let v860 : BitVec 32 := Scalar.addi v858 v859
  v860.toNat
def k0_dev24 (d0 : Dev nD) : Nat :=
  let c0_i32_760 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_759 : BitVec 32 := 4#32
  let v905 : BitVec 32 := Scalar.muli v2 c4_i32_759
  let v906 : BitVec 32 := Scalar.addi c0_i32_760 v905
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_761 : BitVec 32 := 2#32
  let v907 : BitVec 32 := Scalar.muli v5 c2_i32_761
  let v908 : BitVec 32 := Scalar.addi v906 v907
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_762 : BitVec 32 := 1#32
  let v909 : BitVec 32 := Scalar.muli v10 c1_i32_762
  let v910 : BitVec 32 := Scalar.addi v908 v909
  v910.toNat
def k0_dev25 (d0 : Dev nD) : Nat :=
  let c0_i32_804 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_803 : BitVec 32 := 4#32
  let v955 : BitVec 32 := Scalar.muli v2 c4_i32_803
  let v956 : BitVec 32 := Scalar.addi c0_i32_804 v955
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_805 : BitVec 32 := 2#32
  let v957 : BitVec 32 := Scalar.muli v5 c2_i32_805
  let v958 : BitVec 32 := Scalar.addi v956 v957
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_806 : BitVec 32 := 1#32
  let v959 : BitVec 32 := Scalar.muli v10 c1_i32_806
  let v960 : BitVec 32 := Scalar.addi v958 v959
  v960.toNat
def k0_dev26 (d0 : Dev nD) : Nat :=
  let c0_i32_848 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_847 : BitVec 32 := 4#32
  let v1005 : BitVec 32 := Scalar.muli v2 c4_i32_847
  let v1006 : BitVec 32 := Scalar.addi c0_i32_848 v1005
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_849 : BitVec 32 := 2#32
  let v1007 : BitVec 32 := Scalar.muli v5 c2_i32_849
  let v1008 : BitVec 32 := Scalar.addi v1006 v1007
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_850 : BitVec 32 := 1#32
  let v1009 : BitVec 32 := Scalar.muli v10 c1_i32_850
  let v1010 : BitVec 32 := Scalar.addi v1008 v1009
  v1010.toNat
def k0_dev27 (d0 : Dev nD) : Nat :=
  let c0_i32_892 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_891 : BitVec 32 := 4#32
  let v1055 : BitVec 32 := Scalar.muli v2 c4_i32_891
  let v1056 : BitVec 32 := Scalar.addi c0_i32_892 v1055
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_893 : BitVec 32 := 2#32
  let v1057 : BitVec 32 := Scalar.muli v5 c2_i32_893
  let v1058 : BitVec 32 := Scalar.addi v1056 v1057
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_894 : BitVec 32 := 1#32
  let v1059 : BitVec 32 := Scalar.muli v10 c1_i32_894
  let v1060 : BitVec 32 := Scalar.addi v1058 v1059
  v1060.toNat
def k0_dev28 (d0 : Dev nD) : Nat :=
  let c0_i32_936 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_935 : BitVec 32 := 4#32
  let v1105 : BitVec 32 := Scalar.muli v2 c4_i32_935
  let v1106 : BitVec 32 := Scalar.addi c0_i32_936 v1105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_937 : BitVec 32 := 2#32
  let v1107 : BitVec 32 := Scalar.muli v5 c2_i32_937
  let v1108 : BitVec 32 := Scalar.addi v1106 v1107
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_938 : BitVec 32 := 1#32
  let v1109 : BitVec 32 := Scalar.muli v10 c1_i32_938
  let v1110 : BitVec 32 := Scalar.addi v1108 v1109
  v1110.toNat
def k0_dev29 (d0 : Dev nD) : Nat :=
  let c0_i32_980 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_979 : BitVec 32 := 4#32
  let v1155 : BitVec 32 := Scalar.muli v2 c4_i32_979
  let v1156 : BitVec 32 := Scalar.addi c0_i32_980 v1155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_981 : BitVec 32 := 2#32
  let v1157 : BitVec 32 := Scalar.muli v5 c2_i32_981
  let v1158 : BitVec 32 := Scalar.addi v1156 v1157
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_982 : BitVec 32 := 1#32
  let v1159 : BitVec 32 := Scalar.muli v10 c1_i32_982
  let v1160 : BitVec 32 := Scalar.addi v1158 v1159
  v1160.toNat
def k0_dev30 (d0 : Dev nD) : Nat :=
  let c0_i32_1024 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1023 : BitVec 32 := 4#32
  let v1205 : BitVec 32 := Scalar.muli v2 c4_i32_1023
  let v1206 : BitVec 32 := Scalar.addi c0_i32_1024 v1205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1025 : BitVec 32 := 2#32
  let v1207 : BitVec 32 := Scalar.muli v5 c2_i32_1025
  let v1208 : BitVec 32 := Scalar.addi v1206 v1207
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1026 : BitVec 32 := 1#32
  let v1209 : BitVec 32 := Scalar.muli v10 c1_i32_1026
  let v1210 : BitVec 32 := Scalar.addi v1208 v1209
  v1210.toNat
def k0_dev31 (d0 : Dev nD) : Nat :=
  let c0_i32_1068 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1067 : BitVec 32 := 4#32
  let v1255 : BitVec 32 := Scalar.muli v2 c4_i32_1067
  let v1256 : BitVec 32 := Scalar.addi c0_i32_1068 v1255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1069 : BitVec 32 := 2#32
  let v1257 : BitVec 32 := Scalar.muli v5 c2_i32_1069
  let v1258 : BitVec 32 := Scalar.addi v1256 v1257
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1070 : BitVec 32 := 1#32
  let v1259 : BitVec 32 := Scalar.muli v10 c1_i32_1070
  let v1260 : BitVec 32 := Scalar.addi v1258 v1259
  v1260.toNat
def k0_dev32 (d0 : Dev nD) : Nat :=
  let c0_i32_1112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1111 : BitVec 32 := 4#32
  let v1305 : BitVec 32 := Scalar.muli v2 c4_i32_1111
  let v1306 : BitVec 32 := Scalar.addi c0_i32_1112 v1305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1113 : BitVec 32 := 2#32
  let v1307 : BitVec 32 := Scalar.muli v5 c2_i32_1113
  let v1308 : BitVec 32 := Scalar.addi v1306 v1307
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1114 : BitVec 32 := 1#32
  let v1309 : BitVec 32 := Scalar.muli v10 c1_i32_1114
  let v1310 : BitVec 32 := Scalar.addi v1308 v1309
  v1310.toNat
def k0_dev33 (d0 : Dev nD) : Nat :=
  let c0_i32_1156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1155 : BitVec 32 := 4#32
  let v1355 : BitVec 32 := Scalar.muli v2 c4_i32_1155
  let v1356 : BitVec 32 := Scalar.addi c0_i32_1156 v1355
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1157 : BitVec 32 := 2#32
  let v1357 : BitVec 32 := Scalar.muli v5 c2_i32_1157
  let v1358 : BitVec 32 := Scalar.addi v1356 v1357
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1158 : BitVec 32 := 1#32
  let v1359 : BitVec 32 := Scalar.muli v10 c1_i32_1158
  let v1360 : BitVec 32 := Scalar.addi v1358 v1359
  v1360.toNat
def k0_dev34 (d0 : Dev nD) : Nat :=
  let c0_i32_1200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1199 : BitVec 32 := 4#32
  let v1405 : BitVec 32 := Scalar.muli v2 c4_i32_1199
  let v1406 : BitVec 32 := Scalar.addi c0_i32_1200 v1405
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1201 : BitVec 32 := 2#32
  let v1407 : BitVec 32 := Scalar.muli v5 c2_i32_1201
  let v1408 : BitVec 32 := Scalar.addi v1406 v1407
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_1202 : BitVec 32 := 1#32
  let v1409 : BitVec 32 := Scalar.muli v10 c1_i32_1202
  let v1410 : BitVec 32 := Scalar.addi v1408 v1409
  v1410.toNat
def k0_dev35 (d0 : Dev nD) : Nat :=
  let c0_i32_1224 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1223 : BitVec 32 := 4#32
  let v1443 : BitVec 32 := Scalar.muli v2 c4_i32_1223
  let v1444 : BitVec 32 := Scalar.addi c0_i32_1224 v1443
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1225 : BitVec 32 := 2#32
  let v1445 : BitVec 32 := Scalar.muli v9 c2_i32_1225
  let v1446 : BitVec 32 := Scalar.addi v1444 v1445
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1226 : BitVec 32 := 1#32
  let v1447 : BitVec 32 := Scalar.muli v8 c1_i32_1226
  let v1448 : BitVec 32 := Scalar.addi v1446 v1447
  v1448.toNat
def k0_off3 (d0 : Dev nD) (c0_i32_1236 : BitVec 32) : Fin 2 → Nat :=
  let c0_i32_1251 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16384_i32 : BitVec 32 := 16384#32
  let v1460 : BitVec 32 := Scalar.muli v5 c16384_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16_i32 : BitVec 32 := 16#32
  let v24 : BitVec 32 := Scalar.muli v8 c16_i32
  let v1463 : BitVec 32 := Scalar.addi v24 c0_i32_1236
  let c512_i32_1237 : BitVec 32 := 512#32
  let v1464 : BitVec 32 := Scalar.muli v1463 c512_i32_1237
  let v1465 : BitVec 32 := Scalar.addi v1460 v1464
  ![0, v1465.toNat]
def k0_off4 (d0 : Dev nD) (c0_i32_1417 : BitVec 32) : Fin 2 → Nat :=
  let c0_i32_1438 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16384_i32 : BitVec 32 := 16384#32
  let v1460 : BitVec 32 := Scalar.muli v5 c16384_i32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let c16_i32_16 : BitVec 32 := 16#32
  let v26 : BitVec 32 := Scalar.muli v25 c16_i32_16
  let v1669 : BitVec 32 := Scalar.addi v26 c0_i32_1417
  let c512_i32_1418 : BitVec 32 := 512#32
  let v1670 : BitVec 32 := Scalar.muli v1669 c512_i32_1418
  let v1671 : BitVec 32 := Scalar.addi v1460 v1670
  ![0, v1671.toNat]
def k0_off5 (d0 : Dev nD) (c0_i32_1641 : BitVec 32) : Fin 2 → Nat :=
  let c0_i32_1656 : BitVec 32 := 0#32
  let c1_i32_1234 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1461 : BitVec 32 := Scalar.subi c1_i32_1234 v5
  let c16384_i32_1235 : BitVec 32 := 16384#32
  let v1462 : BitVec 32 := Scalar.muli v1461 c16384_i32_1235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16_i32 : BitVec 32 := 16#32
  let v24 : BitVec 32 := Scalar.muli v8 c16_i32
  let v1908 : BitVec 32 := Scalar.addi v24 c0_i32_1641
  let c512_i32_1642 : BitVec 32 := 512#32
  let v1909 : BitVec 32 := Scalar.muli v1908 c512_i32_1642
  let v1910 : BitVec 32 := Scalar.addi v1462 v1909
  ![0, v1910.toNat]
def k0_off6 (d0 : Dev nD) (c0_i32_2025 : BitVec 32) : Fin 2 → Nat :=
  let c0_i32_2040 : BitVec 32 := 0#32
  let c1_i32_1234 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1461 : BitVec 32 := Scalar.subi c1_i32_1234 v5
  let c16384_i32_1235 : BitVec 32 := 16384#32
  let v1462 : BitVec 32 := Scalar.muli v1461 c16384_i32_1235
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let c16_i32_16 : BitVec 32 := 16#32
  let v26 : BitVec 32 := Scalar.muli v25 c16_i32_16
  let v2252 : BitVec 32 := Scalar.addi v26 c0_i32_2025
  let c512_i32_2026 : BitVec 32 := 512#32
  let v2253 : BitVec 32 := Scalar.muli v2252 c512_i32_2026
  let v2254 : BitVec 32 := Scalar.addi v1462 v2253
  ![0, v2254.toNat]
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 16
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x32768, .f32⟩
  | .hbm, ⟨2, _⟩ => ⟨S1024x2048, .f32⟩
  | .hbm, ⟨3, _⟩ => ⟨S1024x32768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x32768, .f32⟩
  | .hbm, ⟨14, _⟩ => ⟨S1024x32768, .f32⟩
  | .hbm, ⟨15, _⟩ => ⟨S1024x32768, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Refs.lean ====
/-
The buffers, blocks and semaphores of the kernel, named once with the number of the block as an
argument: the blocks of `e`, of the two receive arrays and of the weight, the slots of the staging
buffers, the tiles of the output, and the semaphores' entries.
-/
module

public import proofs.«01_k».proof.Proof.Gen.KernelIdeal
public import proofs.«01_k».proof.Proof.Gen.KernelIdeal.Launch
public import proofs.«01_k».proof.Proof.Gen.KernelIdeal.Points

@[expose] public section

noncomputable section

namespace Cert.KernelIdeal.Run

open Idealize.ShloMosaic Idealize.ShloMosaic.TcCoe
open Idealize.SL Idealize.SL.Sem
open Cert.KernelIdeal Facts₀ Facts

/-! ## In bounds, and whole words, at every number -/

theorem inb16 (k : Fin 16) : ∀ a, (![k.val] : Fin 1 → Nat) a + S1.size a ≤ S16.size a := by
  revert k; decide
theorem inb2 (k : Fin 2) : ∀ a, (![k.val] : Fin 1 → Nat) a + S1.size a ≤ S2.size a := by
  revert k; decide
theorem inbE (k : Fin 32) :
    ∀ a, (![k.val, 0, 0] : Fin 3 → Nat) a + S1x1024x512.size a ≤ S32x1024x512.size a := by
  revert k; decide
theorem wordsE (k : Fin 32) :
    (Rect.unit (s := S32x1024x512) ![k.val, 0, 0] S1x1024x512.size (inbE k)).WholeWords (EltTy.packing .bf16) := by
  revert k; decide +kernel
theorem packedE (k : Fin 32) :
    (Rect.unit (s := S32x1024x512) ![k.val, 0, 0] S1x1024x512.size (inbE k)).PackedRows (EltTy.packing .bf16) := by
  revert k; decide +kernel
theorem inbR (k : Fin 16) :
    ∀ a, (![k.val, 0, 0] : Fin 3 → Nat) a + S1x1024x512.size a ≤ S16x1024x512.size a := by
  revert k; decide
theorem wordsR (k : Fin 16) :
    (Rect.unit (s := S16x1024x512) ![k.val, 0, 0] S1x1024x512.size (inbR k)).WholeWords (EltTy.packing .bf16) := by
  revert k; decide +kernel
theorem inbRR (m : Fin 8) :
    ∀ a, (![2 * m.val, 0, 0] : Fin 3 → Nat) a + S2x1024x512.size a ≤ S16x1024x512.size a := by
  revert m; decide
theorem wordsRR (m : Fin 8) :
    (Rect.unit (s := S16x1024x512) ![2 * m.val, 0, 0] S2x1024x512.size (inbRR m)).WholeWords (EltTy.packing .bf16) := by
  revert m; decide +kernel
theorem inbW (s : Fin 2) :
    ∀ a, (![s.val, 0, 0] : Fin 3 → Nat) a + S1x2048x512.size a ≤ S2x2048x512.size a := by
  revert s; decide
theorem inbS (s : Fin 2) :
    ∀ a, (![s.val, 0, 0] : Fin 3 → Nat) a + S1x1024x1024.size a ≤ S2x1024x1024.size a := by
  revert s; decide
theorem wordsS (s : Fin 2) :
    (Rect.unit (s := S2x1024x1024) ![s.val, 0, 0] S1x1024x1024.size (inbS s)).WholeWords (EltTy.packing .bf16) := by
  revert s; decide +kernel
theorem inbSh (s h : Fin 2) :
    ∀ a, (![s.val, 0, 512 * h.val] : Fin 3 → Nat) a + S1x1024x512.size a ≤ S2x1024x1024.size a := by
  revert s h; decide
theorem packedSh (s h : Fin 2) :
    (Rect.unit (s := S2x1024x1024) ![s.val, 0, 512 * h.val] S1x1024x512.size (inbSh s h)).PackedRows (EltTy.packing .bf16) := by
  revert s h; decide +kernel
theorem inbD (s : Fin 2) :
    ∀ a, (![s.val, 0, 0, 0] : Fin 4 → Nat) a + S1x2x1024x512.size a ≤ S2x2x1024x512.size a := by
  revert s; decide
theorem wordsD (s : Fin 2) :
    (Rect.unit (s := S2x2x1024x512) ![s.val, 0, 0, 0] S1x2x1024x512.size (inbD s)).WholeWords (EltTy.packing .bf16) := by
  revert s; decide +kernel
theorem inbDh (s h : Fin 2) :
    ∀ a, (![s.val, h.val, 0, 0] : Fin 4 → Nat) a + S1x1x1024x512.size a ≤ S2x2x1024x512.size a := by
  revert s h; decide

/-- The parity of a number, as a slot. -/
def par (n : ℕ) : Fin 2 := ⟨n % 2, Nat.mod_lt _ (Nat.succ_pos 1)⟩

/-- The column the weight block of step `p` starts at. -/
def wOff (d : Dev nD) (p : Fin 32) : Fin 2 → Nat :=
  bif Nat.blt p.val 16 then k0_off1 d (BitVec.ofNat 32 p.val) else k0_off2 d (BitVec.ofNat 32 (p.val - 16))

theorem wOff_lo (d : Dev nD) (p : Fin 32) (h : p.val < 16) :
    wOff d p = k0_off1 d (BitVec.ofNat 32 p.val) := by
  have : Nat.blt p.val 16 = true := by simpa [Nat.blt_eq] using h
  simp only [wOff, this, cond_true]
theorem wOff_hi (d : Dev nD) (p : Fin 32) (h : ¬ p.val < 16) :
    wOff d p = k0_off2 d (BitVec.ofNat 32 (p.val - 16)) := by
  have : Nat.blt p.val 16 = false := by
    rw [Bool.eq_false_iff]; simpa [Nat.blt_eq] using h
  simp only [wOff, this, cond_false]

theorem wOff_inb (d : Dev nD) (p : Fin 32) :
    ∀ a, wOff d p a + S2048x512.size a ≤ S2048x16384.size a := by
  by_cases h : p.val < 16
  · rw [wOff_lo d p h]; exact k0_off1_inb d ⟨p.val, h⟩
  · rw [wOff_hi d p h]; exact k0_off2_inb d ⟨p.val - 16, by have := p.isLt; omega⟩

/-- The column the output tile `n` starts at: 8 tiles of each of the four quarters. -/
def oOff (d : Dev nD) (n : Fin 32) : Fin 2 → Nat :=
  bif Nat.blt n.val 8 then k0_off3 d (BitVec.ofNat 32 (2 * n.val))
  else bif Nat.blt n.val 16 then k0_off4 d (BitVec.ofNat 32 (2 * (n.val - 8)))
  else bif Nat.blt n.val 24 then k0_off5 d (BitVec.ofNat 32 (2 * (n.val - 16)))
  else k0_off6 d (BitVec.ofNat 32 (2 * (n.val - 24)))

theorem oOff_cases (d : Dev nD) (n : Fin 32) :
    (∃ r : Fin 8, n.val = r.val ∧ oOff d n = k0_off3 d (BitVec.ofNat 32 (2 * r.val)))
    ∨ (∃ r : Fin 8, n.val = 8 + r.val ∧ oOff d n = k0_off4 d (BitVec.ofNat 32 (2 * r.val)))
    ∨ (∃ r : Fin 8, n.val = 16 + r.val ∧ oOff d n = k0_off5 d (BitVec.ofNat 32 (2 * r.val)))
    ∨ (∃ r : Fin 8, n.val = 24 + r.val ∧ oOff d n = k0_off6 d (BitVec.ofNat 32 (2 * r.val))) := by
  have hn := n.isLt
  have hb : ∀ a b : ℕ, Nat.blt a b = decide (a < b) := fun a b => by
    rw [Bool.eq_iff_iff]; simp [Nat.blt_eq]
  by_cases h8 : n.val < 8
  · exact .inl ⟨⟨n.val, h8⟩, rfl, by simp [oOff, hb, h8]⟩
  by_cases h16 : n.val < 16
  · exact .inr (.inl ⟨⟨n.val - 8, by omega⟩, by simp only; omega, by simp [oOff, hb, h8, h16]⟩)
  by_cases h24 : n.val < 24
  · exact .inr (.inr (.inl ⟨⟨n.val - 16, by omega⟩, by simp only; omega, by simp [oOff, hb, h8, h16, h24]⟩))
  · exact .inr (.inr (.inr ⟨⟨n.val - 24, by omega⟩, by simp only; omega, by simp [oOff, hb, h8, h16, h24]⟩))

theorem oOff_inb (d : Dev nD) (n : Fin 32) :
    ∀ a, oOff d n a + S1024x1024.size a ≤ S1024x32768.size a := by
  rcases oOff_cases d n with ⟨r, _, h⟩ | ⟨r, _, h⟩ | ⟨r, _, h⟩ | ⟨r, _, h⟩ <;> rw [h]
  · exact k0_off3_inb d r
  · exact k0_off4_inb d r
  · exact k0_off5_inb d r
  · exact k0_off6_inb d r

theorem oOff_words (d : Dev nD) (n : Fin 32) :
    (Rect.unit (s := S1024x32768) (oOff d n) S1024x1024.size (oOff_inb d n)).WholeWords (EltTy.packing .bf16) := by
  have key : ∀ o (h : ∀ a, o a + S1024x1024.size a ≤ S1024x32768.size a), oOff d n = o →
      (Rect.unit (s := S1024x32768) o S1024x1024.size h).WholeWords (EltTy.packing .bf16) →
      (Rect.unit (s := S1024x32768) (oOff d n) S1024x1024.size (oOff_inb d n)).WholeWords (EltTy.packing .bf16) := by
    rintro o h rfl hw; exact hw
  rcases oOff_cases d n with ⟨r, _, h⟩ | ⟨r, _, h⟩ | ⟨r, _, h⟩ | ⟨r, _, h⟩
  · exact key _ _ h (k0_off3_wordsbf16 d r)
  · exact key _ _ h (k0_off4_wordsbf16 d r)
  · exact key _ _ h (k0_off5_wordsbf16 d r)
  · exact key _ _ h (k0_off6_wordsbf16 d r)

/-! ## The buffers -/

/-- The activations' staging buffer. -/
abbrev xM : Memref sig .tc .vmem S1024x2048 .bf16 := Memref.whole cc0_stg0_0
/-- The weight. -/
abbrev wM : Memref sig .tc .hbm S2048x16384 .f32 := Memref.whole main_arg1
/-- The output. -/
abbrev oM : Memref sig .tc .hbm S1024x32768 .bf16 := Memref.whole main_v1_0
/-- What the partner along `y` sends: its first 16 blocks. -/
abbrev ryM : Memref sig .tc .hbm S16x1024x512 .bf16 := Memref.whole main_v1_1
/-- What the partner along `z` forwards. -/
abbrev rzM : Memref sig .tc .hbm S16x1024x512 .bf16 := Memref.whole main_v1_2
/-- The exponentials this device computes, block by block. -/
abbrev eM : Memref sig .tc .vmem S32x1024x512 .bf16 := Memref.whole cc0_scratch0
/-- The weight's two slots. -/
abbrev wbM : Memref sig .tc .vmem S2x2048x512 .f32 := Memref.whole cc0_scratch1
/-- The output's two slots. -/
abbrev stM : Memref sig .tc .vmem S2x1024x1024 .bf16 := Memref.whole cc0_scratch2
/-- The two slots the received blocks are read back into. -/
abbrev edM : Memref sig .tc .vmem S2x2x1024x512 .bf16 := Memref.whole cc0_scratch3
/-- The row sums this device sends. -/
abbrev sM : Memref sig .tc .vmem S1024x128 .f32 := Memref.whole cc0_scratch4
/-- The row sums it receives. -/
abbrev srM : Memref sig .tc .vmem S1024x128 .f32 := Memref.whole cc0_scratch5

/-! ## The semaphores -/

/-- Entry `k` of an array of 16 semaphores. -/
def sem16 (A : DmaSems sig S16) (k : Fin 16) : DmaSem sig :=
  ((A.slice (Rect.unit (s := S16) ![k.val] S1.size (inb16 k))).squeeze S_ squeezes_S1_S_).sem
/-- Entry `k` of an array of 2 semaphores. -/
def sem2 (A : DmaSems sig S2) (k : Fin 2) : DmaSem sig :=
  ((A.slice (Rect.unit (s := S2) ![k.val] S1.size (inb2 k))).squeeze S_ squeezes_S1_S_).sem

def ysS (k : Fin 16) : DmaSem sig := sem16 cc0_scratch6 k
def yrS (k : Fin 16) : DmaSem sig := sem16 cc0_scratch7 k
def zsS (k : Fin 16) : DmaSem sig := sem16 cc0_scratch8 k
def zrS (k : Fin 16) : DmaSem sig := sem16 cc0_scratch9 k
def ssS : DmaSem sig := cc0_scratch10.sem
def srS : DmaSem sig := cc0_scratch11.sem
def wS (s : Fin 2) : DmaSem sig := sem2 cc0_scratch12 s
def stS (s : Fin 2) : DmaSem sig := sem2 cc0_scratch13 s
def edS (s : Fin 2) : DmaSem sig := sem2 cc0_scratch14 s
/-- The barrier's semaphore. -/
def barS : Sem sig := (SemArray.scalar (sig.barrier 0 rfl) : Sems sig S_).sem

/-! ## The blocks -/

abbrev blk16 (M : Memref sig .tc .hbm S16x1024x512 .bf16) (k : Fin 16) : Memref sig .tc .hbm S1024x512 .bf16 :=
  (M.slice (Rect.unit (s := S16x1024x512) ![k.val, 0, 0] S1x1024x512.size (inbR k)) (fun _ => rfl)).squeeze
    S1024x512 squeezes_S1x1024x512_S1024x512
abbrev ryB (k : Fin 16) : Memref sig .tc .hbm S1024x512 .bf16 := blk16 ryM k
abbrev rzB (k : Fin 16) : Memref sig .tc .hbm S1024x512 .bf16 := blk16 rzM k
theorem ryB_exact (k : Fin 16) : (ryB k).view.WordExact :=
  ((Memref.isWhole_whole main_v1_1).wordExact_slice rfl _ (wordsR k)).reshape _ _
theorem rzB_exact (k : Fin 16) : (rzB k).view.WordExact :=
  ((Memref.isWhole_whole main_v1_2).wordExact_slice rfl _ (wordsR k)).reshape _ _

/-- Block `k` of the exponentials. -/
abbrev eB (k : Fin 32) : Memref sig .tc .vmem S1024x512 .bf16 :=
  (eM.slice (Rect.unit (s := S32x1024x512) ![k.val, 0, 0] S1x1024x512.size (inbE k)) (fun _ => rfl)).squeeze
    S1024x512 squeezes_S1x1024x512_S1024x512
theorem eB_exact (k : Fin 32) : (eB k).view.WordExact :=
  ((Memref.isWhole_whole cc0_scratch0).wordExact_slice rfl _ (wordsE k)).reshape _ _
/-- The same block as a load or a store addresses it. -/
abbrev eR (k : Fin 32) : Rect S32x1024x512 := Rect.unit (s := S32x1024x512) ![k.val, 0, 0] S1x1024x512.size (inbE k)

/-- The weight block of step `p`, and the slot it is loaded into. -/
abbrev wSrc (d : Dev nD) (p : Fin 32) : Memref sig .tc .hbm S2048x512 .f32 :=
  wM.slice (Rect.unit (s := S2048x16384) (wOff d p) S2048x512.size (wOff_inb d p)) (fun _ => rfl)
abbrev wSlot (s : Fin 2) : Memref sig .tc .vmem S2048x512 .f32 :=
  (wbM.slice (Rect.unit (s := S2x2048x512) ![s.val, 0, 0] S1x2048x512.size (inbW s)) (fun _ => rfl)).squeeze
    S2048x512 squeezes_S1x2048x512_S2048x512
abbrev wR (s : Fin 2) : Rect S2x2048x512 := Rect.unit (s := S2x2048x512) ![s.val, 0, 0] S1x2048x512.size (inbW s)

/-- A slot of the output, its two halves, and the tile it is copied to. -/
abbrev stSlot (s : Fin 2) : Memref sig .tc .vmem S1024x1024 .bf16 :=
  (stM.slice (Rect.unit (s := S2x1024x1024) ![s.val, 0, 0] S1x1024x1024.size (inbS s)) (fun _ => rfl)).squeeze
    S1024x1024 squeezes_S1x1024x1024_S1024x1024
theorem stSlot_exact (s : Fin 2) : (stSlot s).view.WordExact :=
  ((Memref.isWhole_whole cc0_scratch2).wordExact_slice rfl _ (wordsS s)).reshape _ _
abbrev stR (s h : Fin 2) : Rect S2x1024x1024 := Rect.unit (s := S2x1024x1024) ![s.val, 0, 512 * h.val] S1x1024x512.size (inbSh s h)
abbrev oT (d : Dev nD) (n : Fin 32) : Memref sig .tc .hbm S1024x1024 .bf16 :=
  oM.slice (Rect.unit (s := S1024x32768) (oOff d n) S1024x1024.size (oOff_inb d n)) (fun _ => rfl)
theorem oT_exact (d : Dev nD) (n : Fin 32) : (oT d n).view.WordExact :=
  (Memref.isWhole_whole main_v1_0).wordExact_slice rfl _ (oOff_words d n)

/-- Two received blocks, and the slot they are read back into. -/
abbrev dbl (M : Memref sig .tc .hbm S16x1024x512 .bf16) (m : Fin 8) : Memref sig .tc .hbm S2x1024x512 .bf16 :=
  M.slice (Rect.unit (s := S16x1024x512) ![2 * m.val, 0, 0] S2x1024x512.size (inbRR m)) (fun _ => rfl)
abbrev edSlot (s : Fin 2) : Memref sig .tc .vmem S2x1024x512 .bf16 :=
  (edM.slice (Rect.unit (s := S2x2x1024x512) ![s.val, 0, 0, 0] S1x2x1024x512.size (inbD s)) (fun _ => rfl)).squeeze
    S2x1024x512 squeezes_S1x2x1024x512_S2x1024x512
theorem edSlot_exact (s : Fin 2) : (edSlot s).view.WordExact :=
  ((Memref.isWhole_whole cc0_scratch3).wordExact_slice rfl _ (wordsD s)).reshape _ _
abbrev edR (s h : Fin 2) : Rect S2x2x1024x512 := Rect.unit (s := S2x2x1024x512) ![s.val, h.val, 0, 0] S1x1x1024x512.size (inbDh s h)

/-- What read-back `m` reads: the first eight from what came along `y`, the others from what came along `z`. -/
def edSrc (m : Fin 16) : Memref sig .tc .hbm S2x1024x512 .bf16 :=
  if h : m.val < 8 then dbl ryM ⟨m.val, h⟩ else dbl rzM ⟨m.val - 8, by have := m.isLt; omega⟩
theorem edSrc_exact (m : Fin 16) : (edSrc m).view.WordExact := by
  unfold edSrc
  split
  · exact (Memref.isWhole_whole main_v1_1).wordExact_slice rfl _ (wordsRR _)
  · exact (Memref.isWhole_whole main_v1_2).wordExact_slice rfl _ (wordsRR _)

end Cert.KernelIdeal.Run

end
-- ==== Proof.Prog.lean ====
/-
The kernel's body as loops over numbered steps: what is printed one operation after the other is,
step by step, the same few operations at the next number. `body_eq` says the two are the same program.
-/
module

public import proofs.«01_k».proof.Proof.Refs
public import Idealize.ShloMosaic.Lib.Tactic

@[expose] public section

noncomputable section

namespace Cert.KernelIdeal.Run

open Idealize.ShloMosaic Idealize.ShloMosaic.TcCoe
open Idealize.SL Idealize.SL.Sem
open Cert.KernelIdeal Facts₀ Facts

variable {F : FTy → Type} [FloatOps F]

/-- A program of the kernel. -/
abbrev P (F : FTy → Type) [FloatOps F] : Type _ := Prog (TpuEff nD τ sig (Elt F) Λ₀ .tc) PUnit

/-- The steps `i, i+1, …, N-1` one after the other, a state handed from each to the next. -/
def loop {α : Type _} {N : ℕ} {σ : Type _} (step : Fin N → σ → (σ → α) → α) :
    (n i : ℕ) → i + n = N → σ → (σ → α) → α
  | 0, _, _, s, k => k s
  | n + 1, i, h, s, k => step ⟨i, by omega⟩ s fun s' => loop step n (i + 1) (by omega) s' k

/-! ## What the steps compute -/

/-- A block of the weight, as loaded from its slot, narrowed. -/
def wNar (v : Vec F S1x2048x512 .f32) : FVec F S2048x512 .bf16 :=
  truncf .bf16 (shapeCast S2048x512 v shapeCasts_S1x2048x512_S2048x512) bitsLt_bf16_f32
/-- The exponentials of a block of logits. -/
def expBlk (w : Vec F S1x2048x512 .f32) (x : Vec F S1024x2048 .bf16) : FVec F S1024x512 .f32 :=
  exp (matmul dot_S1024x2048_S2048x512_S1024x512_1_0_0_1_n_n none
    (shapeCast S1024x2048 x shapeCasts_S1024x2048_S1024x2048) (wNar w) (constant S1024x512 .f32 0x00000000#32))
/-- The block as it is stored. -/
def narBlk (e : FVec F S1024x512 .f32) : FVec F S1x1024x512 .bf16 :=
  shapeCast S1x1024x512 (truncf .bf16 e bitsLt_bf16_f32) shapeCasts_S1024x512_S1x1024x512
/-- The row sums. -/
def rowSum (acc : FVec F S1024x512 .f32) : FVec F S1024x1 .f32 :=
  shapeCast S1024x1 (multiReduction .add [1] S1024 acc 0x00000000#32 reduces_S1024x512_S1024 (.inl rfl) rfl)
    shapeCasts_S1024_S1024x1
/-- The row sums as they are stored and sent. -/
def sumWide (s : FVec F S1024x1 .f32) : FVec F S1024x128 .f32 :=
  shapeCast S1024x128 (broadcastTo S1024x128 (shapeCast S1024x1 s shapeCasts_S1024x1_S1024x1)
    broadcasts_S1024x1_S1024x128) shapeCasts_S1024x128_S1024x128
/-- The reciprocal of the whole row sum. -/
def recip (s r : FVec F S1024x1 .f32) : FVec F S1024x1 .bf16 :=
  truncf .bf16 (divf (broadcast S1024x1 (Scalar.ofBits .f32 0x3F800000#32)) (addf s r)) bitsLt_bf16_f32
/-- A block of this device's times the reciprocal. -/
def scaleE (inv : FVec F S1024x1 .bf16) (e : Vec F S1x1024x512 .bf16) : FVec F S1024x512 .bf16 :=
  mulf (shapeCast S1024x512 e shapeCasts_S1x1024x512_S1024x512)
    (broadcastTo S1024x512 inv broadcasts_S1024x1_S1024x512)
/-- A block read back, times the reciprocal. -/
def scaleD (inv : FVec F S1024x1 .bf16) (e : Vec F S1x1x1024x512 .bf16) : FVec F S1024x512 .bf16 :=
  mulf (shapeCast S1024x512 e shapeCasts_S1x1x1024x512_S1024x512)
    (broadcastTo S1024x512 inv broadcasts_S1024x1_S1024x512)
/-- A half of an output tile as it is stored. -/
def half (a : FVec F S1024x512 .bf16) : FVec F S1x1024x512 .bf16 :=
  shapeCast S1x1024x512 a shapeCasts_S1024x512_S1x1024x512

/-! ## The steps -/

/-- Start loading the weight block of step `p` into its slot. -/
def startW (d : Dev nD) (p : Fin 32) (k : P F) : P F :=
  .op (.enqueueDma (wSrc d p) (.here (wSlot (par p.val))) (.dma (wS (par p.val)))
    (View.wordExact_bits rfl) ((View.wordExact_bits rfl).reshape _ _) ⟨Or.inl rfl, trivial⟩) fun _ => k

/-- Start the next load, if there is one. -/
def nextW (d : Dev nD) (p : Fin 32) (k : P F) : P F :=
  if h : p.val + 1 < 32 then startW d ⟨p.val + 1, h⟩ k else k

/-- Wait for the weight block of step `p`, start the next, compute the block's exponentials, add them to the
    accumulator and store them. -/
def compute (d : Dev nD) (p : Fin 32) (acc : FVec F S1024x512 .f32) (k : FVec F S1024x512 .f32 → P F) : P F :=
  .op (.waitDma2 (wS (par p.val)) (wSrc d p) (wSlot (par p.val))
    (View.wordExact_bits rfl) ((View.wordExact_bits rfl).reshape _ _)) fun _ =>
  nextW d p <|
  .op (.load wbM (wR (par p.val)).toLoadRect (View.loadsAt_vmem h_S1x2048x512)) fun w =>
  .op (.load xM (Rect.unit (s := S1024x2048) ![0, 0] S1024x2048.size inb_S1024x2048_S1024x2048_0_0).toLoadRect
    (View.loadsAt_vmem h_S1024x2048)) fun x =>
  .op (.load eM (eR p).toLoadRect (View.loadsAt_vmem h_S1x1024x512)) fun _ =>
  .op (.store eM (eR p) (narBlk (expBlk w x)) Finset.univ
    (View.stores_vmem h_S1x1024x512 ((Memref.isWhole_whole cc0_scratch0).storeExact_slice rfl _ (packedE p)) (fun _ => rfl))
    (.inl rfl)) fun _ =>
  k (addf acc (expBlk w x))

/-- Send block `q` to the partner along `y`. -/
def sendY (d : Dev nD) (q : Fin 16) (k : P F) : P F :=
  .op (.enqueueDma (eB ⟨q.val, by have := q.isLt; omega⟩)
    (.remote (Dev.tc (⟨k0_dev3 d, k0_dev3_lt d⟩ : Dev nD)) (ryB q) (.dma (ysS q))) (.dma (yrS q))
    (eB_exact _) (ryB_exact q) ⟨⟨rfl, Or.inl rfl⟩, trivial⟩) fun _ => k

/-- Wait for block `q` from the partner along `y`. -/
def waitYr (q : Fin 16) (k : P F) : P F :=
  .op (.waitDma2 (yrS q) (eB ⟨q.val, by have := q.isLt; omega⟩) (ryB q) (eB_exact _) (ryB_exact q)) fun _ => k

/-- Forward block `q` to the partner along `z`. -/
def sendZ (d : Dev nD) (q : Fin 16) (k : P F) : P F :=
  .op (.enqueueDma (ryB q)
    (.remote (Dev.tc (⟨k0_dev19 d, k0_dev19_lt d⟩ : Dev nD)) (rzB q) (.dma (zsS q))) (.dma (zrS q))
    (ryB_exact q) (rzB_exact q) ⟨⟨rfl, Or.inl rfl⟩, trivial⟩) fun _ => k

/-- Wait for block `q` forwarded along `z`. -/
def waitZr (q : Fin 16) (k : P F) : P F :=
  .op (.waitDma2 (zrS q) (ryB q) (rzB q) (ryB_exact q) (rzB_exact q)) fun _ => k

def waitYs (q : Fin 16) (k : P F) : P F :=
  .op (.waitDma2 (ysS q) (ryB q) (eB ⟨q.val, by have := q.isLt; omega⟩) (ryB_exact q) (eB_exact _)) fun _ => k
def waitZs (q : Fin 16) (k : P F) : P F :=
  .op (.waitDma2 (zsS q) (rzB q) (ryB q) (rzB_exact q) (ryB_exact q)) fun _ => k

/-- Step `q` of the first half: compute block `q` and send it. -/
def step1 (d : Dev nD) (q : Fin 16) (acc : FVec F S1024x512 .f32) (k : FVec F S1024x512 .f32 → P F) : P F :=
  compute d ⟨q.val, by have := q.isLt; omega⟩ acc fun acc' => sendY d q (k acc')

/-- Step `q` of the second half: forward what came, compute block `16 + q`. -/
def step2 (d : Dev nD) (q : Fin 16) (acc : FVec F S1024x512 .f32) (k : FVec F S1024x512 .f32 → P F) : P F :=
  waitYr q <| sendZ d q <| compute d ⟨16 + q.val, by have := q.isLt; omega⟩ acc k

/-- Exchange the row sums and take the reciprocal. -/
def sums (d : Dev nD) (acc : FVec F S1024x512 .f32) (k : FVec F S1024x1 .bf16 → P F) : P F :=
  .op (.load sM (Rect.unit (s := S1024x128) ![0, 0] S1024x128.size inb_S1024x128_S1024x128_0_0).toLoadRect
    (View.loadsAt_vmem h_S1024x128)) fun _ =>
  .op (.store sM (Rect.unit (s := S1024x128) ![0, 0] S1024x128.size inb_S1024x128_S1024x128_0_0)
    (sumWide (rowSum acc)) Finset.univ (View.stores_vmem_bits_univ h_S1024x128 rfl) (.inl rfl)) fun _ =>
  .op (.enqueueDma sM (.remote (Dev.tc (⟨k0_dev35 d, k0_dev35_lt d⟩ : Dev nD)) srM (.dma ssS)) (.dma srS)
    (Memref.isWhole_whole _).wordExact (Memref.isWhole_whole _).wordExact ⟨⟨rfl, Or.inl rfl⟩, trivial⟩) fun _ =>
  .op (.waitDma2 srS sM srM (Memref.isWhole_whole _).wordExact (Memref.isWhole_whole _).wordExact) fun _ =>
  .op (.load srM (Rect.unit (s := S1024x128) ![0, 0] S1024x1.size inb_S1024x128_S1024x1_0_0).toLoadRect
    (View.loadsAt_vmem h_S1024x1)) fun (r : Vec F S1024x1 .f32) =>
  k (recip (rowSum acc) r)

/-- Wait until the slot of tile `n` has been copied out. -/
def waitO (d : Dev nD) (n : Fin 32) (k : P F) : P F :=
  .op (.waitDma2 (stS (par n.val)) (stSlot (par n.val)) (oT d n) (stSlot_exact _) (oT_exact d n)) fun _ => k

/-- Before tile `n` is stored: wait for the tile that used its slot. -/
def freeO (d : Dev nD) (n : Fin 32) (k : P F) : P F :=
  if h : 2 ≤ n.val then waitO d ⟨n.val - 2, by have := n.isLt; omega⟩ k else k

/-- Store half `h` of a tile into slot `s`. -/
def putO (s h : Fin 2) (a : FVec F S1024x512 .bf16) (k : P F) : P F :=
  .op (.load stM (stR s h).toLoadRect (View.loadsAt_vmem h_S1x1024x512)) fun _ =>
  .op (.store stM (stR s h) (half a) Finset.univ
    (View.stores_vmem h_S1x1024x512 ((Memref.isWhole_whole cc0_scratch2).storeExact_slice rfl _ (packedSh s h)) (fun _ => rfl))
    (.inl rfl)) fun _ => k

/-- Store the tile `n` from its two halves and copy it out. -/
def stageO (d : Dev nD) (n : Fin 32) (a b : FVec F S1024x512 .bf16) (k : P F) : P F :=
  freeO d n <| putO (par n.val) 0 a <| putO (par n.val) 1 b <|
  .op (.enqueueDma (stSlot (par n.val)) (.here (oT d n)) (.dma (stS (par n.val)))
    (stSlot_exact _) (oT_exact d n) ⟨Or.inl rfl, trivial⟩) fun _ => k

/-- Tile `n` of this device's own blocks. -/
def step3 (d : Dev nD) (inv : FVec F S1024x1 .bf16) (n : Fin 16) (s : Unit) (k : Unit → P F) : P F :=
  .op (.load eM (eR ⟨2 * n.val, by have := n.isLt; omega⟩).toLoadRect (View.loadsAt_vmem h_S1x1024x512)) fun a =>
  .op (.load eM (eR ⟨2 * n.val + 1, by have := n.isLt; omega⟩).toLoadRect (View.loadsAt_vmem h_S1x1024x512)) fun b =>
  stageO d ⟨n.val, by have := n.isLt; omega⟩ (scaleE inv a) (scaleE inv b) (k ⟨⟩)

/-- Before a read-back of blocks forwarded along `z`: wait for the two. -/
def needD (m : Fin 16) (k : P F) : P F :=
  if h : 8 ≤ m.val then
    waitZr ⟨2 * (m.val - 8), by have := m.isLt; omega⟩ <|
    waitZr ⟨2 * (m.val - 8) + 1, by have := m.isLt; omega⟩ k
  else k

/-- Start read-back `m`. -/
def startD (m : Fin 16) (k : P F) : P F :=
  needD m <|
  .op (.enqueueDma (edSrc m) (.here (edSlot (par m.val))) (.dma (edS (par m.val)))
    (edSrc_exact m) (edSlot_exact _) ⟨Or.inl rfl, trivial⟩) fun _ => k

/-- Start the next read-back, if there is one. -/
def nextD (m : Fin 16) (k : P F) : P F :=
  if h : m.val + 1 < 16 then startD ⟨m.val + 1, h⟩ k else k

/-- Tile `16 + m`, of received blocks. -/
def step4 (d : Dev nD) (inv : FVec F S1024x1 .bf16) (m : Fin 16) (s : Unit) (k : Unit → P F) : P F :=
  .op (.waitDma2 (edS (par m.val)) (edSrc m) (edSlot (par m.val)) (edSrc_exact m) (edSlot_exact _)) fun _ =>
  nextD m <|
  .op (.load edM (edR (par m.val) 0).toLoadRect (View.loadsAt_vmem h_S1x1x1024x512)) fun a =>
  .op (.load edM (edR (par m.val) 1).toLoadRect (View.loadsAt_vmem h_S1x1x1024x512)) fun b =>
  stageO d ⟨16 + m.val, by have := m.isLt; omega⟩ (scaleD inv a) (scaleD inv b) (k ⟨⟩)

/-- Wait for the `y` sends, the `z` sends, the row sums' send and the last two tiles. -/
def finish (d : Dev nD) : P F :=
  loop (fun q (_ : Unit) k => waitYs q (k ⟨⟩)) 16 0 rfl ⟨⟩ fun _ =>
  loop (fun q (_ : Unit) k => waitZs q (k ⟨⟩)) 16 0 rfl ⟨⟩ fun _ =>
  .op (.waitDma2 ssS srM sM (Memref.isWhole_whole _).wordExact (Memref.isWhole_whole _).wordExact) fun _ =>
  waitO d 30 <| waitO d 31 <| .ret ⟨⟩

/-- What follows the barrier. -/
def afterBarrier (d : Dev nD) : P F :=
  startW d 0 <|
  loop (step1 d) 16 0 rfl (broadcast S1024x512 (Scalar.ofBits .f32 0x00000000#32)) fun acc =>
  loop (step2 d) 16 0 rfl acc fun acc =>
  sums d acc fun inv =>
  loop (step3 d inv) 16 0 rfl ⟨⟩ fun _ =>
  startD 0 <|
  loop (step4 d inv) 16 0 rfl ⟨⟩ fun _ =>
  finish d

/-- The kernel's body. -/
def body : P F :=
  .op .deviceId fun d =>
  .op (.semSignal ((⟨k0_dev1 d, k0_dev1_lt d⟩ : Dev nD), .tc) barS 1) fun _ =>
  .op (.semSignal ((⟨k0_dev2 d, k0_dev2_lt d⟩ : Dev nD), .tc) barS 1) fun _ =>
  .op (.semWait barS 2) fun _ =>
  afterBarrier d

set_option maxRecDepth 100000 in
/-- The printed body is these loops. -/
theorem body_eq (t : Fin cfg0.N) : Gen.bodyAt0 (F := F) t = body := by
  sl_kernel_rfl

end Cert.KernelIdeal.Run

end
-- ==== Proof.Cont.lean ====
/-
What the buffers hold: the exponentials of each device, what its partners send, the row sums, the
reciprocal, and the tiles of the output; and, for each transfer, that what it writes is this.
-/
module

public import proofs.«01_k».proof.Proof.Prog
public import Idealize.ShloMosaic.Lib.ValueLayout
public import Idealize.ShloMosaic.Lib.ViewIndex

@[expose] public section

noncomputable section

namespace Cert.KernelIdeal.Run

open Idealize.ShloMosaic Idealize.ShloMosaic.TcCoe
open Idealize.SL Idealize.SL.Sem
open Idealize.ShloMosaic.ValueIdx
open Cert.KernelIdeal Facts₀ Facts

variable {F : FTy → Type} [FloatOps F]

/-! ## The partners -/

set_option backward.proofsInPublic true in
/-- The device that differs in the `y` coordinate. -/
def py (c : Dev nD) : Dev nD := ⟨(4 * (c.val / 4) + (c.val % 2) + 2) - 2 * ((c.val / 2) % 2), by
  have h : c.val < 8 := c.isLt
  show _ < 8; omega⟩
set_option backward.proofsInPublic true in
/-- The device that differs in the `z` coordinate. -/
def pz (c : Dev nD) : Dev nD := ⟨(4 * (c.val / 4) + 2 * ((c.val / 2) % 2) + 1) - c.val % 2, by
  have h : c.val < 8 := c.isLt
  show _ < 8; omega⟩
theorem py_py (c : Dev nD) : py (py c) = c := by revert c; decide
theorem pz_pz (c : Dev nD) : pz (pz c) = c := by revert c; decide
theorem py_ne (c : Dev nD) : py c ≠ c := by revert c; decide
theorem pz_ne (c : Dev nD) : pz c ≠ c := by revert c; decide
theorem py_ne_pz (c : Dev nD) : py c ≠ pz c := by revert c; decide
theorem dev1_eq (c : Dev nD) : (⟨k0_dev1 c, k0_dev1_lt c⟩ : Dev nD) = py c :=
  Fin.ext ((Gen.k0_dev1_eq c).trans (by simp only [py]))
theorem dev2_eq (c : Dev nD) : (⟨k0_dev2 c, k0_dev2_lt c⟩ : Dev nD) = pz c :=
  Fin.ext ((Gen.k0_dev2_eq c).trans (by simp only [pz]))
theorem dev3_eq (c : Dev nD) : (⟨k0_dev3 c, k0_dev3_lt c⟩ : Dev nD) = py c :=
  Fin.ext ((Gen.k0_dev3_eq c).trans (by simp only [py]))
theorem dev19_eq (c : Dev nD) : (⟨k0_dev19 c, k0_dev19_lt c⟩ : Dev nD) = pz c :=
  Fin.ext ((Gen.k0_dev19_eq c).trans (by simp only [pz]))
theorem dev35_eq (c : Dev nD) : (⟨k0_dev35 c, k0_dev35_lt c⟩ : Dev nD) = py c :=
  Fin.ext ((Gen.k0_dev35_eq c).trans (by simp only [py]))

/-! ## Where the blocks lie -/

theorem ex2 {a b : ℕ} (x : (⟨2, ![a, b]⟩ : Shape).Idx) : ∃ (i : Fin a) (j : Fin b), x = ix2 i j :=
  ⟨x 0, x 1, eq_ix2 x⟩
theorem ex3 {a b c : ℕ} (x : (⟨3, ![a, b, c]⟩ : Shape).Idx) : ∃ (u : Fin a) (i : Fin b) (j : Fin c), x = ix3 u i j :=
  ⟨x 0, x 1, x 2, eq_ix3 x⟩

/-- Which elements a run of whole rows of a rank-three buffer has. -/
theorem mem_lead {n a b : ℕ} (o sz : ℕ) {inb} (i : (⟨3, ![n, a, b]⟩ : Shape).Idx) :
    i ∈ (Rect.unit (s := ⟨3, ![n, a, b]⟩) ![o, 0, 0] ![sz, a, b] inb).set ↔ o ≤ (i 0).val ∧ (i 0).val < o + sz := by
  rw [Rect.mem_set_unit]
  constructor
  · intro h; exact h 0
  · intro h x
    match x with
    | ⟨0, _⟩ => exact h
    | ⟨1, _⟩ => exact ⟨Nat.zero_le _, by have : (i 1).val < a := (i 1).isLt; simpa using this⟩
    | ⟨2, _⟩ => exact ⟨Nat.zero_le _, by have : (i 2).val < b := (i 2).isLt; simpa using this⟩

theorem eB_emb (k : Fin 32) (i : Fin 1024) (j : Fin 512) : (eB k).view.emb (ix2 i j) = ix3 k i j := by
  show (eR k).emb (Shape.reshapeEquiv _ (ix2 i j)) = _
  rw [reshapeEquiv_ix2_1ab]
  funext a; apply Fin.ext
  match a with
  | ⟨0, _⟩ => simp
  | ⟨1, _⟩ => simp
  | ⟨2, _⟩ => simp
theorem eA_emb (k : Fin 32) (i : Fin 1024) (j : Fin 512) (u : Fin 1) :
    (eM.access (eR k)).emb (ix3 u i j) = ix3 k i j := by
  show (eR k).emb (ix3 u i j) = _
  funext a; apply Fin.ext
  match a with
  | ⟨0, _⟩ => simp
  | ⟨1, _⟩ => simp
  | ⟨2, _⟩ => simp
theorem ryB_emb (k : Fin 16) (i : Fin 1024) (j : Fin 512) : (ryB k).view.emb (ix2 i j) = ix3 k i j := by
  show (Rect.unit (s := S16x1024x512) ![k.val, 0, 0] S1x1024x512.size (inbR k)).emb (Shape.reshapeEquiv _ (ix2 i j)) = _
  rw [reshapeEquiv_ix2_1ab]
  funext a; apply Fin.ext
  match a with
  | ⟨0, _⟩ => simp
  | ⟨1, _⟩ => simp
  | ⟨2, _⟩ => simp
theorem rzB_emb (k : Fin 16) (i : Fin 1024) (j : Fin 512) : (rzB k).view.emb (ix2 i j) = ix3 k i j :=
  ryB_emb k i j
theorem wSlot_emb (s : Fin 2) (i : Fin 2048) (j : Fin 512) : (wSlot s).view.emb (ix2 i j) = ix3 s i j := by
  show (wR s).emb (Shape.reshapeEquiv _ (ix2 i j)) = _
  rw [reshapeEquiv_ix2_1ab]
  funext a; apply Fin.ext
  match a with
  | ⟨0, _⟩ => simp
  | ⟨1, _⟩ => simp
  | ⟨2, _⟩ => simp
theorem stSlot_emb (s : Fin 2) (i : Fin 1024) (j : Fin 1024) : (stSlot s).view.emb (ix2 i j) = ix3 s i j := by
  show (Rect.unit (s := S2x1024x1024) ![s.val, 0, 0] S1x1024x1024.size (inbS s)).emb (Shape.reshapeEquiv _ (ix2 i j)) = _
  rw [reshapeEquiv_ix2_1ab]
  funext a; apply Fin.ext
  match a with
  | ⟨0, _⟩ => simp
  | ⟨1, _⟩ => simp
  | ⟨2, _⟩ => simp
theorem edSlot_emb (s a : Fin 2) (i : Fin 1024) (j : Fin 512) : (edSlot s).view.emb (ix3 a i j) = ix4 s a i j := by
  show (Rect.unit (s := S2x2x1024x512) ![s.val, 0, 0, 0] S1x2x1024x512.size (inbD s)).emb (Shape.reshapeEquiv _ (ix3 a i j)) = _
  rw [reshapeEquiv_ix3_1abc]
  funext a; apply Fin.ext
  match a with
  | ⟨0, _⟩ => simp
  | ⟨1, _⟩ => simp
  | ⟨2, _⟩ => simp
  | ⟨3, _⟩ => simp

theorem eB_mem (k : Fin 32) (i : S32x1024x512.Idx) : i ∈ (eB k).view.set ↔ (i 0).val = k.val := by
  have h : (eB k).view.set = (eR k).set := by
    rw [show (eB k).view.set = ((View.whole cc0_scratch0).slice (eR k)).set from View.set_reshape _ _]
    exact View.set_slice_whole _ _
  rw [h]; refine (mem_lead k.val 1 i).trans ?_; omega
theorem eA_mem (k : Fin 32) (i : S32x1024x512.Idx) : i ∈ (eM.access (eR k)).set ↔ (i 0).val = k.val := by
  have h : (eM.access (eR k)).set = (eR k).set := View.set_slice_whole cc0_scratch0 (eR k)
  rw [h]; refine (mem_lead k.val 1 i).trans ?_; omega
theorem eA_set (k : Fin 32) : (eM.access (eR k)).set = (eB k).view.set := by
  ext i; rw [eA_mem, eB_mem]
theorem ryB_mem (k : Fin 16) (i : S16x1024x512.Idx) : i ∈ (ryB k).view.set ↔ (i 0).val = k.val := by
  have h : (ryB k).view.set = (Rect.unit (s := S16x1024x512) ![k.val, 0, 0] S1x1024x512.size (inbR k)).set := by
    rw [show (ryB k).view.set = ((View.whole main_v1_1).slice (Rect.unit (s := S16x1024x512) ![k.val, 0, 0] S1x1024x512.size (inbR k))).set from View.set_reshape _ _]
    exact View.set_slice_whole _ _
  rw [h]; refine (mem_lead k.val 1 i).trans ?_; omega
theorem rzB_mem (k : Fin 16) (i : S16x1024x512.Idx) : i ∈ (rzB k).view.set ↔ (i 0).val = k.val := by
  have h : (rzB k).view.set = (Rect.unit (s := S16x1024x512) ![k.val, 0, 0] S1x1024x512.size (inbR k)).set := by
    rw [show (rzB k).view.set = ((View.whole main_v1_2).slice (Rect.unit (s := S16x1024x512) ![k.val, 0, 0] S1x1024x512.size (inbR k))).set from View.set_reshape _ _]
    exact View.set_slice_whole _ _
  rw [h]; refine (mem_lead k.val 1 i).trans ?_; omega
theorem dblz_mem (j : Fin 8) (i : S16x1024x512.Idx) :
    i ∈ (dbl rzM j).view.set ↔ 2 * j.val ≤ (i 0).val ∧ (i 0).val < 2 * j.val + 2 := by
  have h : (dbl rzM j).view.set = (Rect.unit (s := S16x1024x512) ![2 * j.val, 0, 0] S2x1024x512.size (inbRR j)).set :=
    View.set_slice_whole _ _
  rw [h]; exact mem_lead (2 * j.val) 2 i
theorem wSlot_mem (s : Fin 2) (i : S2x2048x512.Idx) : i ∈ (wSlot s).view.set ↔ (i 0).val = s.val := by
  have h : (wSlot s).view.set = (wR s).set := by
    rw [show (wSlot s).view.set = ((View.whole cc0_scratch1).slice (wR s)).set from View.set_reshape _ _]
    exact View.set_slice_whole _ _
  rw [h]; refine (mem_lead s.val 1 i).trans ?_; omega
theorem wR_sub (s : Fin 2) : (wbM : Memref sig .tc .vmem S2x2048x512 .f32).view.setOn (wR s).toLoadRect.set ⊆ (wSlot s).view.set := by
  have h : (wSlot s).view.set = (wR s).set := by
    rw [show (wSlot s).view.set = ((View.whole cc0_scratch1).slice (wR s)).set from View.set_reshape _ _]
    exact View.set_slice_whole _ _
  rw [h]; intro i hi
  obtain ⟨x, hx, rfl⟩ := Finset.mem_map.mp hi
  exact hx
theorem stSlot_mem (s : Fin 2) (i : S2x1024x1024.Idx) : i ∈ (stSlot s).view.set ↔ (i 0).val = s.val := by
  have h : (stSlot s).view.set = (Rect.unit (s := S2x1024x1024) ![s.val, 0, 0] S1x1024x1024.size (inbS s)).set := by
    rw [show (stSlot s).view.set = ((View.whole cc0_scratch2).slice (Rect.unit (s := S2x1024x1024) ![s.val, 0, 0] S1x1024x1024.size (inbS s))).set from View.set_reshape _ _]
    exact View.set_slice_whole _ _
  rw [h]; refine (mem_lead s.val 1 i).trans ?_; omega
theorem stA_mem (s h : Fin 2) (i : S2x1024x1024.Idx) :
    i ∈ (stM.access (stR s h)).set ↔ (i 0).val = s.val ∧ (i 2).val / 512 = h.val := by
  have hh : (stM.access (stR s h)).set = (stR s h).set := View.set_slice_whole cc0_scratch2 (stR s h)
  rw [hh, Rect.mem_set_unit]
  have h2 : (i 2).val < 1024 := (i 2).isLt
  have h1 : (i 1).val < 1024 := (i 1).isLt
  constructor
  · intro H
    have H0 : s.val ≤ (i 0).val ∧ (i 0).val < s.val + 1 := H 0
    have H2 : 512 * h.val ≤ (i 2).val ∧ (i 2).val < 512 * h.val + 512 := H 2
    omega
  · rintro ⟨H0, H2⟩ x
    match x with
    | ⟨0, _⟩ => show s.val ≤ (i 0).val ∧ (i 0).val < s.val + 1; omega
    | ⟨1, _⟩ => show 0 ≤ (i 1).val ∧ (i 1).val < 0 + 1024; omega
    | ⟨2, _⟩ => show 512 * h.val ≤ (i 2).val ∧ (i 2).val < 512 * h.val + 512; omega
theorem stA_sub (s h : Fin 2) : (stM.access (stR s h)).set ⊆ (stSlot s).view.set := fun i hi => by
  rw [stSlot_mem]; exact ((stA_mem s h i).1 hi).1
theorem stL_sub (s h : Fin 2) : (stM : Memref sig .tc .vmem S2x1024x1024 .bf16).view.setOn (stR s h).toLoadRect.set ⊆ (stSlot s).view.set := by
  refine subset_trans (fun i hi => ?_) (stA_sub s h)
  obtain ⟨x, hx, rfl⟩ := Finset.mem_map.mp hi
  have hh : (stM.access (stR s h)).set = (stR s h).set := View.set_slice_whole cc0_scratch2 (stR s h)
  rw [hh]; exact hx
theorem stA_emb (s h : Fin 2) (u : Fin 1) (i : Fin 1024) (j : Fin 512) :
    (stM.access (stR s h)).emb (ix3 u i j) = ix3 s i ⟨512 * h.val + j.val, by have := h.isLt; have := j.isLt; omega⟩ := by
  show (stR s h).emb (ix3 u i j) = _
  funext a; apply Fin.ext
  match a with
  | ⟨0, _⟩ => simp
  | ⟨1, _⟩ => simp
  | ⟨2, _⟩ => simp
theorem edSlot_mem (s : Fin 2) (i : S2x2x1024x512.Idx) : i ∈ (edSlot s).view.set ↔ (i 0).val = s.val := by
  constructor
  · intro hi
    obtain ⟨x, -, rfl⟩ := Finset.mem_map.mp hi
    obtain ⟨u, i, j, rfl⟩ := ex3 (a := 2) (b := 1024) (c := 512) x
    rw [edSlot_emb]
  · intro h
    refine Finset.mem_map.mpr ⟨ix3 (i 1) (i 2) (i 3), Finset.mem_univ _, ?_⟩
    refine (edSlot_emb s (i 1) (i 2) (i 3)).trans ?_
    funext a; apply Fin.ext
    match a with
    | ⟨0, _⟩ => exact h.symm
    | ⟨1, _⟩ => rfl
    | ⟨2, _⟩ => rfl
    | ⟨3, _⟩ => rfl
theorem edR_sub (s h : Fin 2) : (edM : Memref sig .tc .vmem S2x2x1024x512 .bf16).view.setOn (edR s h).toLoadRect.set ⊆ (edSlot s).view.set := by
  intro i hi
  obtain ⟨x, hx, rfl⟩ := Finset.mem_map.mp hi
  rw [edSlot_mem]
  have h0 : s.val ≤ (x 0).val ∧ (x 0).val < s.val + 1 := (Rect.mem_set_unit.mp hx) 0
  show (x 0).val = s.val
  omega

/-- The number, from the left, of the tile of the output stored `n`th; and back, for it is the same map. -/
def tcol (c : Dev nD) (n : Fin 32) : Fin 32 :=
  ⟨16 * ((c.val / 2 % 2 + n.val / 16) % 2) + 8 * ((c.val % 2 + n.val / 8 % 2) % 2) + n.val % 8, by omega⟩
theorem tcol_tcol (c : Dev nD) (n : Fin 32) : tcol c (tcol c n) = n := by
  apply Fin.ext
  have := n.isLt
  simp only [tcol]; omega
theorem oOff_eq (c : Dev nD) (n : Fin 32) : oOff c n = ![0, 1024 * (tcol c n).val] := by
  have hc : c.val < 8 := c.isLt
  rcases oOff_cases c n with ⟨r, hn, h⟩ | ⟨r, hn, h⟩ | ⟨r, hn, h⟩ | ⟨r, hn, h⟩ <;> rw [h]
  · rw [Gen.k0_off3_eq]
    have hr := r.isLt
    congr 2; simp only [tcol, hn]; omega
  · rw [Gen.k0_off4_eq]
    have hr := r.isLt
    congr 2; simp only [tcol, hn]; omega
  · rw [Gen.k0_off5_eq]
    have hr := r.isLt
    congr 2; simp only [tcol, hn]; omega
  · rw [Gen.k0_off6_eq]
    have hr := r.isLt
    congr 2; simp only [tcol, hn]; omega

theorem oT_emb (c : Dev nD) (n : Fin 32) (i j : Fin 1024) :
    (oT c n).view.emb (ix2 i j) = ix2 i ⟨1024 * (tcol c n).val + j.val, by have := (tcol c n).isLt; have := j.isLt; omega⟩ := by
  show (Rect.unit (s := S1024x32768) (oOff c n) S1024x1024.size (oOff_inb c n)).emb (ix2 i j) = _
  funext a; apply Fin.ext
  match a with
  | ⟨0, _⟩ => simp [oOff_eq]
  | ⟨1, _⟩ => simp [oOff_eq]
theorem oT_mem (c : Dev nD) (n : Fin 32) (i : S1024x32768.Idx) :
    i ∈ (oT c n).view.set ↔ (i 1).val / 1024 = (tcol c n).val := by
  constructor
  · intro hi
    obtain ⟨x, -, rfl⟩ := Finset.mem_map.mp hi
    obtain ⟨i, j, rfl⟩ := ex2 (a := 1024) (b := 1024) x
    rw [oT_emb]
    have : j.val < 1024 := j.isLt
    show (1024 * (tcol c n).val + j.val) / 1024 = _
    omega
  · intro h
    refine Finset.mem_map.mpr ⟨ix2 (i 0) (⟨(i 1).val % 1024, Nat.mod_lt _ (by decide)⟩ : Fin 1024), Finset.mem_univ _, ?_⟩
    refine (oT_emb c n (i 0) _).trans ?_
    funext a; apply Fin.ext
    match a with
    | ⟨0, _⟩ => rfl
    | ⟨1, _⟩ => show 1024 * (tcol c n).val + (i 1).val % 1024 = (i 1).val; omega

/-! ## The contents -/

variable (m : (ℓ : Loc nD τ sig) → Buf (Elt F) ℓ)

/-- The activations, as staged. -/
def xstg (c : Dev nD) : (cc0_stg0_0 : Ref sig .tc).ty.Contents (Elt F) :=
  (win0_0.blk (0 : Fin 1)).view.read (Elt F) (m ((c : Thread nD τ).loc main_arg0))

/-- A slot of the weight once the block of step `p` is in. -/
def wbC (c : Dev nD) (p : Fin 32) : (cc0_scratch1 : Ref sig .tc).ty.Contents (Elt F) :=
  fun i => (wSrc c p).view.read (Elt F) (m ((c : Thread nD τ).loc main_arg1)) (ix2 (i 1) (i 2))

/-- The exponentials of block `p`. -/
def eV (c : Dev nD) (p : Fin 32) : FVec F S1024x512 .f32 :=
  expBlk (wbM.view.readAt (Elt F) (wR (par p.val)).toLoadRect (wbC m c p))
    (xM.view.readAt (Elt F) (Rect.unit (s := S1024x2048) ![0, 0] S1024x2048.size inb_S1024x2048_S1024x2048_0_0).toLoadRect (xstg m c))

/-- Their sum, the first `i` blocks in. -/
def accV (c : Dev nD) : ℕ → FVec F S1024x512 .f32
  | 0 => broadcast S1024x512 (Scalar.ofBits .f32 0x00000000#32)
  | i + 1 => if h : i < 32 then addf (accV c i) (eV m c ⟨i, h⟩) else accV c i

theorem accV_succ (c : Dev nD) (p : Fin 32) : addf (accV m c p.val) (eV m c p) = accV m c (p.val + 1) := by
  show _ = (if h : p.val < 32 then addf (accV m c p.val) (eV m c ⟨p.val, h⟩) else accV m c p.val)
  rw [dif_pos p.isLt]

/-- All the exponentials, narrowed. -/
def eBuf (c : Dev nD) : (cc0_scratch0 : Ref sig .tc).ty.Contents (Elt F) :=
  fun i => narBlk (eV m c (i 0)) (ix3 (0 : Fin 1) (i 1) (i 2))

/-- What the partner along `y` sends: its first 16 blocks. -/
def ryBuf (c : Dev nD) : (main_v1_1 : Ref sig .tc).ty.Contents (Elt F) :=
  fun i => eBuf m (py c) (ix3 (⟨(i 0).val, by have h : (i 0).val < 16 := (i 0).isLt; omega⟩ : Fin 32) (i 1) (i 2))

/-- What the partner along `z` forwards: what it got along `y`. -/
def rzBuf (c : Dev nD) : (main_v1_2 : Ref sig .tc).ty.Contents (Elt F) := fun i => ryBuf m (pz c) i

/-- The row sums, and the partner's. -/
def sBuf (c : Dev nD) : (cc0_scratch4 : Ref sig .tc).ty.Contents (Elt F) := sumWide (rowSum (accV m c 32))
def srBuf (c : Dev nD) : (cc0_scratch5 : Ref sig .tc).ty.Contents (Elt F) := fun i => sBuf m (py c) i

/-- The reciprocal of the whole row sum. -/
def invV (c : Dev nD) : FVec F S1024x1 .bf16 :=
  recip (rowSum (accV m c 32)) (srM.view.readAt (Elt F)
    (Rect.unit (s := S1024x128) ![0, 0] S1024x1.size inb_S1024x128_S1024x1_0_0).toLoadRect (srBuf m c))

/-- The slots of the read-backs once read-back `j` is in. -/
def edC (c : Dev nD) (j : Fin 16) : (cc0_scratch3 : Ref sig .tc).ty.Contents (Elt F) :=
  fun i => if h : j.val < 8 then (dbl ryM ⟨j.val, h⟩).view.read (Elt F) (ryBuf m c) (ix3 (i 1) (i 2) (i 3))
    else (dbl rzM ⟨j.val - 8, by have := j.isLt; omega⟩).view.read (Elt F) (rzBuf m c) (ix3 (i 1) (i 2) (i 3))

/-- Half `h` of tile `n`. -/
def tv (c : Dev nD) (n : Fin 32) (h : Fin 2) : FVec F S1024x512 .bf16 :=
  if hn : n.val < 16 then
    scaleE (invV m c) (eM.view.readAt (Elt F) (eR ⟨2 * n.val + h.val, by have := h.isLt; omega⟩).toLoadRect (eBuf m c))
  else
    scaleD (invV m c) (edM.view.readAt (Elt F) (edR (par (n.val - 16)) h).toLoadRect
      (edC m c ⟨n.val - 16, by have := n.isLt; omega⟩))

/-- A slot of the output once tile `n` is in. -/
def stC (c : Dev nD) (n : Fin 32) : (cc0_scratch2 : Ref sig .tc).ty.Contents (Elt F) :=
  fun i => tv m c n ⟨(i 2).val / 512, by have h : (i 2).val < 1024 := (i 2).isLt; omega⟩
    (ix2 (i 1) (⟨(i 2).val % 512, Nat.mod_lt _ (by decide)⟩ : Fin 512))

/-- The output. -/
def outBuf (c : Dev nD) : (main_v1_0 : Ref sig .tc).ty.Contents (Elt F) :=
  fun i => stC m c (tcol c ⟨(i 1).val / 1024, by have h : (i 1).val < 32768 := (i 1).isLt; omega⟩)
    (ix3 (0 : Fin 2) (i 0) (⟨(i 1).val % 1024, Nat.mod_lt _ (by decide)⟩ : Fin 1024))

/-! ## What each transfer and store writes is this -/

theorem wSlot_read (c : Dev nD) (p : Fin 32) (s : Fin 2) (x : S2048x512.Idx) :
    (wSlot s).view.read (Elt F) (wbC m c p) x
      = (wSrc c p).view.read (Elt F) (m ((c : Thread nD τ).loc main_arg1)) x := by
  obtain ⟨i, j', rfl⟩ := ex2 (a := 2048) (b := 512) x
  show wbC m c p ((wSlot s).view.emb (ix2 i j')) = _
  rw [wSlot_emb]; rfl

theorem eA_read (c : Dev nD) (p : Fin 32) (x : S1x1024x512.Idx) :
    (eM.access (eR p)).read (Elt F) (eBuf m c) x = narBlk (eV m c p) x := by
  obtain ⟨u, i, j', rfl⟩ := ex3 (a := 1) (b := 1024) (c := 512) x
  show eBuf m c ((eM.access (eR p)).emb (ix3 u i j')) = _
  rw [eA_emb, show u = (0 : Fin 1) from Subsingleton.elim _ _]; rfl

theorem ryB_read (c : Dev nD) (k : Fin 16) (x : S1024x512.Idx) :
    (ryB k).view.read (Elt F) (ryBuf m c) x
      = (eB ⟨k.val, by have := k.isLt; omega⟩).view.read (Elt F) (eBuf m (py c)) x := by
  obtain ⟨i, j', rfl⟩ := ex2 (a := 1024) (b := 512) x
  have hk : k.val < 32 := by have := k.isLt; omega
  show ryBuf m c ((ryB k).view.emb (ix2 i j')) = eBuf m (py c) ((eB ⟨k.val, hk⟩).view.emb (ix2 i j'))
  rw [ryB_emb, eB_emb]; rfl

theorem rzB_read (c : Dev nD) (k : Fin 16) (x : S1024x512.Idx) :
    (rzB k).view.read (Elt F) (rzBuf m c) x = (ryB k).view.read (Elt F) (ryBuf m (pz c)) x := by
  obtain ⟨i, j', rfl⟩ := ex2 (a := 1024) (b := 512) x
  show rzBuf m c ((rzB k).view.emb (ix2 i j')) = ryBuf m (pz c) ((ryB k).view.emb (ix2 i j'))
  rw [ryB_emb, rzB_emb]; rfl

theorem edSlot_read_y (c : Dev nD) (j : Fin 16) (h : j.val < 8) (s : Fin 2) (x : S2x1024x512.Idx) :
    (edSlot s).view.read (Elt F) (edC m c j) x = (dbl ryM ⟨j.val, h⟩).view.read (Elt F) (ryBuf m c) x := by
  obtain ⟨u, i, j', rfl⟩ := ex3 (a := 2) (b := 1024) (c := 512) x
  show edC m c j ((edSlot s).view.emb (ix3 u i j')) = _
  rw [edSlot_emb]
  show dite _ _ _ = _
  rw [dif_pos h]; rfl
theorem edSlot_read_z (c : Dev nD) (j : Fin 16) (h : ¬ j.val < 8) (s : Fin 2) (x : S2x1024x512.Idx) :
    (edSlot s).view.read (Elt F) (edC m c j) x
      = (dbl rzM ⟨j.val - 8, by have := j.isLt; omega⟩).view.read (Elt F) (rzBuf m c) x := by
  obtain ⟨u, i, j', rfl⟩ := ex3 (a := 2) (b := 1024) (c := 512) x
  show edC m c j ((edSlot s).view.emb (ix3 u i j')) = _
  rw [edSlot_emb]
  show dite _ _ _ = _
  rw [dif_neg h]; rfl

theorem stA_read (c : Dev nD) (n : Fin 32) (s h : Fin 2) (x : S1x1024x512.Idx) :
    (stM.access (stR s h)).read (Elt F) (stC m c n) x = half (tv m c n h) x := by
  obtain ⟨u, i, j', rfl⟩ := ex3 (a := 1) (b := 1024) (c := 512) x
  show stC m c n ((stM.access (stR s h)).emb (ix3 u i j'))
    = tv m c n h (Shape.reshapeEquiv _ (ix3 u i j'))
  have e : ∀ hh, (Shape.reshapeEquiv hh (ix3 u i j') : S1024x512.Idx) = ix2 i j' := fun hh => by
    have h1 := reshapeEquiv_ix2_1ab (a := 1024) (b := 512) hh.symm i j'
    rw [show u = (0 : Fin 1) from Subsingleton.elim _ _]
    refine Eq.trans (congrArg _ h1.symm) ?_
    rw [← Shape.reshapeEquiv_symm hh]
    exact Equiv.apply_symm_apply _ _
  rw [e, stA_emb]
  have h2 : j'.val < 512 := j'.isLt
  have hh := h.isLt
  show tv m c n ⟨(512 * h.val + j'.val) / 512, _⟩ (ix2 i ⟨(512 * h.val + j'.val) % 512, _⟩) = _
  congr 1
  · congr 1; omega
  · congr 1; apply Fin.ext; show (512 * h.val + j'.val) % 512 = j'.val; omega

theorem oT_read (c : Dev nD) (n : Fin 32) (s : Fin 2) (x : S1024x1024.Idx) :
    (oT c n).view.read (Elt F) (outBuf m c) x = (stSlot s).view.read (Elt F) (stC m c n) x := by
  obtain ⟨i, j', rfl⟩ := ex2 (a := 1024) (b := 1024) x
  show outBuf m c ((oT c n).view.emb (ix2 i j')) = stC m c n ((stSlot s).view.emb (ix2 i j'))
  rw [oT_emb, stSlot_emb]
  have h1 : j'.val < 1024 := j'.isLt
  show stC m c (tcol c ⟨(1024 * (tcol c n).val + j'.val) / 1024, _⟩)
    (ix3 (0 : Fin 2) i (⟨(1024 * (tcol c n).val + j'.val) % 1024, _⟩ : Fin 1024)) = _
  have e1 : (1024 * (tcol c n).val + j'.val) / 1024 = (tcol c n).val := by omega
  have e2 : (1024 * (tcol c n).val + j'.val) % 1024 = j'.val := by omega
  simp only [e1, e2, Fin.eta, tcol_tcol]
  rfl

end Cert.KernelIdeal.Run

end
-- ==== Proof.Sched.lean ====
/-
Who may signal what, and what each signal hands over: the barrier's two units, and one unit of
bytes for each semaphore a transfer between devices completes.
-/
module

public import proofs.«01_k».proof.Proof.Cont
public import Idealize.ShloMosaic.Lib.Rounds
public import Idealize.ShloMosaic.Lib.Transfers
public import Idealize.ShloMosaic.Lib.Pipeline.Launch
public import Idealize.ShloMosaic.Lib.Pipeline.Kit

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ledger of the signals between devices. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The elements of a memref on device `c`, at share `q`, holding `f`. -/
abbrev pts {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

/-- The same, holding anything. -/
abbrev anyPts {sp : Space} {s : Shape} {e : EltTy} (M : Memref sig .tc sp s e) (c : Dev nD) : sProp 𝕄 :=
  iprop(∃ f : Buf (Elt F) (M.view.loc (c : Thread nD τ)), pts M c fullShare f)

variable (m : (ℓ : Loc nD τ sig) → Buf (Elt F) ℓ)

/-! ## The cells -/

abbrev cell (c : Dev nD) (n : DmaSem sig) : GSem nD τ sig := ((c : Thread nD τ), .dma n)
abbrev barC (c : Dev nD) : GSem nD τ sig := ((c : Thread nD τ), .reg barS)

theorem ysS_val (k : Fin 16) : (ysS k).val = 1 + k.val := by revert k; decide
theorem yrS_val (k : Fin 16) : (yrS k).val = 17 + k.val := by revert k; decide
theorem zsS_val (k : Fin 16) : (zsS k).val = 33 + k.val := by revert k; decide
theorem zrS_val (k : Fin 16) : (zrS k).val = 49 + k.val := by revert k; decide
theorem ssS_val : (ssS : DmaSem sig).val = 65 := by decide
theorem srS_val : (srS : DmaSem sig).val = 66 := by decide
theorem wS_val (k : Fin 2) : (wS k).val = 67 + k.val := by revert k; decide
theorem stS_val (k : Fin 2) : (stS k).val = 69 + k.val := by revert k; decide
theorem edS_val (k : Fin 2) : (edS k).val = 71 + k.val := by revert k; decide

/-- The bytes of a block and of the row sums, as semaphores count them. -/
def NB : ℕ := (ryB 0).view.dmaCredit
def NS : ℕ := srM.view.dmaCredit
theorem NB_pos : 0 < NB := View.dmaCredit_pos _ (by decide)
theorem NS_pos : 0 < NS := View.dmaCredit_pos _ (by decide)

def k16 (n : ℕ) : Fin 16 := ⟨n % 16, Nat.mod_lt _ (Nat.succ_pos 15)⟩
theorem k16_val (k : Fin 16) : k16 k.val = k := Fin.ext (Nat.mod_eq_of_lt k.isLt)
theorem k16_add (a : ℕ) (k : Fin 16) : k16 (a + k.val - a) = k := by rw [Nat.add_sub_cancel_left, k16_val]
/-- The same number among 32. -/
def lo (k : Fin 16) : Fin 32 := ⟨k.val, by have := k.isLt; omega⟩
def hi (k : Fin 16) : Fin 32 := ⟨16 + k.val, by have := k.isLt; omega⟩

/-! ## The schedule -/

/-- From the partner along `y`: the places its blocks and row sums will come to. -/
def barY (c : Dev nD) : sProp 𝕄 :=
  iprop((bigSep Finset.univ fun k : Fin 16 => anyPts (ryB k) (py c)) ∗ anyPts srM (py c))
/-- From the partner along `z`: the places the forwarded blocks will come to. -/
def barZ (c : Dev nD) : sProp 𝕄 :=
  bigSep Finset.univ fun k : Fin 16 => anyPts (rzB k) (pz c)

/-- What the transfer completing on semaphore `n` of device `c` hands over. -/
def dmaPay (c : Dev nD) (n : ℕ) : sProp 𝕄 :=
  if n ≤ 16 then pts (eB (lo (k16 (n - 1)))) c fullShare.right (eBuf m c)
  else if n ≤ 32 then pts (ryB (k16 (n - 17))) c fullShare (ryBuf m c)
  else if n ≤ 48 then pts (ryB (k16 (n - 33))) c fullShare.right (ryBuf m c)
  else if n ≤ 64 then pts (rzB (k16 (n - 49))) c fullShare (rzBuf m c)
  else if n ≤ 65 then pts sM c fullShare (sBuf m c)
  else pts srM c fullShare (srBuf m c)

def isBar (g : GSem nD τ sig) : Prop := g.1.2 = .tc ∧ g.2 = .reg barS
def isXfer (g : GSem nD τ sig) : Prop := g.1.2 = .tc ∧ ∃ n : DmaSem sig, g.2 = .dma n ∧ 1 ≤ n.val ∧ n.val ≤ 66

open Classical in
def Rd : Rounds.Schedule (GSem nD τ sig) Bool 𝕄 where
  duties g r := if r = 0 ∧ isBar g then Finset.univ else if r = 0 ∧ isXfer g then {false} else ∅
  unitless _ := False
  amount g _ _ := match g.2 with
    | .dma n => if n.val ≤ 64 then NB else NS
    | _ => 1
  payload g _ d := match g.2 with
    | .dma n => dmaPay m g.1.1 n.val
    | _ => if d then barY g.1.1 else barZ g.1.1
  amount_pos g _ _ _ := by
    rcases g.2 with n | n
    · exact Nat.one_pos
    · show 0 < if n.val ≤ 64 then NB else NS
      split
      · exact NB_pos
      · exact NS_pos

instance dmaPay_storable (c : Dev nD) (n : ℕ) : BI.Storable (upEmb : UEmb _ 𝕄) (dmaPay m c n) := by
  unfold dmaPay; (repeat' split) <;> infer_instance
instance barY_storable (c : Dev nD) : BI.Storable (upEmb : UEmb _ 𝕄) (barY (F := F) c) := by unfold barY; infer_instance
instance barZ_storable (c : Dev nD) : BI.Storable (upEmb : UEmb _ 𝕄) (barZ (F := F) c) := by unfold barZ; infer_instance

instance Rd_payload_storable (g : GSem nD τ sig) (r : ℕ) (d : Bool) :
    BI.Storable (upEmb : UEmb _ 𝕄) ((Rd (F := F) m).payload g r d) := by
  obtain ⟨t, sm⟩ := g
  rcases sm with n | n
  · show BI.Storable upEmb (if d then barY (F := F) t.1 else barZ t.1)
    split <;> infer_instance
  · show BI.Storable upEmb (dmaPay m t.1 n.val)
    infer_instance

theorem duties_bar (c : Dev nD) : (Rd m).duties (barC c) 0 = Finset.univ := by
  dsimp only [Rd]; exact if_pos ⟨rfl, rfl, rfl⟩
theorem duties_dma (c : Dev nD) (n : DmaSem sig) (h : 1 ≤ n.val ∧ n.val ≤ 66) : (Rd m).duties (cell c n) 0 = {false} := by
  dsimp only [Rd]; rw [if_neg (fun h => by cases h.2.2)]
  exact if_pos ⟨rfl, rfl, n, rfl, h⟩
theorem duties_later (g : GSem nD τ sig) : ∀ r, 1 ≤ r → (Rd m).duties g r = ∅ :=
  fun r hr => by dsimp only [Rd]; rw [if_neg fun h => by omega, if_neg fun h => by omega]

theorem amount_bar (c : Dev nD) (d : Bool) : (Rd m).amount (barC c) 0 d = 1 := rfl
theorem amount_dma (c : Dev nD) (n : DmaSem sig) (d : Bool) :
    (Rd m).amount (cell c n) 0 d = if n.val ≤ 64 then NB else NS := rfl
theorem amount_NB (c : Dev nD) (n : DmaSem sig) (h : n.val ≤ 64) (d : Bool) : (Rd m).amount (cell c n) 0 d = NB := if_pos h
theorem amount_NS (c : Dev nD) (n : DmaSem sig) (h : ¬ n.val ≤ 64) (d : Bool) : (Rd m).amount (cell c n) 0 d = NS := if_neg h

theorem expect_bar (c : Dev nD) : (Rd m).expect (barC c) 0 = 2 := by
  unfold Schedule.expect Schedule.amountOf
  rw [duties_bar, Finset.sum_congr rfl fun d _ => amount_bar m c d, Finset.sum_const, Finset.card_univ, Fintype.card_bool, smul_eq_mul]
theorem expect_dma (c : Dev nD) (n : DmaSem sig) (h : 1 ≤ n.val ∧ n.val ≤ 66) :
    (Rd m).expect (cell c n) 0 = if n.val ≤ 64 then NB else NS := by
  unfold Schedule.expect Schedule.amountOf; rw [duties_dma m c n h, Finset.sum_singleton, amount_dma]

theorem payload_true (c : Dev nD) : (Rd m).payload (barC c) 0 true = barY c := by
  show (if true = true then barY c else barZ c) = barY c
  exact if_pos rfl
theorem payload_false (c : Dev nD) : (Rd m).payload (barC c) 0 false = barZ c := by
  show (if false = true then barY c else barZ c) = barZ c
  exact if_neg Bool.false_ne_true
theorem payload_ys (c : Dev nD) (k : Fin 16) (d : Bool) :
    (Rd m).payload (cell c (ysS k)) 0 d = pts (eB (lo k)) c fullShare.right (eBuf m c) := by
  have hk := k.isLt
  show dmaPay m c (ysS k).val = _
  rw [ysS_val]; unfold dmaPay
  rw [if_pos (by omega), k16_add]
theorem payload_yr (c : Dev nD) (k : Fin 16) (d : Bool) :
    (Rd m).payload (cell c (yrS k)) 0 d = pts (ryB k) c fullShare (ryBuf m c) := by
  have hk := k.isLt
  show dmaPay m c (yrS k).val = _
  rw [yrS_val]; unfold dmaPay
  rw [if_neg (by omega), if_pos (by omega), k16_add]
theorem payload_zs (c : Dev nD) (k : Fin 16) (d : Bool) :
    (Rd m).payload (cell c (zsS k)) 0 d = pts (ryB k) c fullShare.right (ryBuf m c) := by
  have hk := k.isLt
  show dmaPay m c (zsS k).val = _
  rw [zsS_val]; unfold dmaPay
  rw [if_neg (by omega), if_neg (by omega), if_pos (by omega), k16_add]
theorem payload_zr (c : Dev nD) (k : Fin 16) (d : Bool) :
    (Rd m).payload (cell c (zrS k)) 0 d = pts (rzB k) c fullShare (rzBuf m c) := by
  have hk := k.isLt
  show dmaPay m c (zrS k).val = _
  rw [zrS_val]; unfold dmaPay
  rw [if_neg (by omega), if_neg (by omega), if_neg (by omega), if_pos (by omega), k16_add]
theorem payload_ss (c : Dev nD) (d : Bool) : (Rd m).payload (cell c ssS) 0 d = pts sM c fullShare (sBuf m c) := by
  show dmaPay m c (ssS : DmaSem sig).val = _
  rw [ssS_val]; unfold dmaPay
  rw [if_neg (by omega), if_neg (by omega), if_neg (by omega), if_neg (by omega), if_pos (by omega)]
theorem payload_sr (c : Dev nD) (d : Bool) : (Rd m).payload (cell c srS) 0 d = pts srM c fullShare (srBuf m c) := by
  show dmaPay m c (srS : DmaSem sig).val = _
  rw [srS_val]; unfold dmaPay
  rw [if_neg (by omega), if_neg (by omega), if_neg (by omega), if_neg (by omega), if_neg (by omega)]

theorem rest_bar (c : Dev nD) : bigSep ((Rd m).duties (barC c) 0 \ ∅) (fun d => (Rd m).payload (barC c) 0 d) = iprop(barZ c ∗ barY c) := by
  rw [Finset.sdiff_empty, duties_bar, bigSep_univ_eq_bigSepL [false, true] (by decide) (by decide), bigSepL_cons_cons, bigSepL_singleton,
    payload_false, payload_true]
  rfl
theorem rest_dma (c : Dev nD) (n : DmaSem sig) (h : 1 ≤ n.val ∧ n.val ≤ 66) :
    bigSep ((Rd m).duties (cell c n) 0 \ ∅) (fun d => (Rd m).payload (cell c n) 0 d) = (Rd m).payload (cell c n) 0 false := by
  rw [Finset.sdiff_empty, duties_dma m c n h, bigSep_singleton]

/-! ## The records every device holds -/

/-- The numbered cells of a device: the barrier's first, then the semaphores of the transfers. -/
def ksem (n : Fin 67) : SemLoc sig := if n.val = 0 then .reg barS else .dma ⟨n.val, by
  have h : n.val < 67 := n.isLt
  show _ < 73; omega⟩
abbrev kcell (p : Dev nD × Fin 67) : GSem nD τ sig := ((p.1 : Thread nD τ), ksem p.2)

/-- A cell is under way, and at its first round at least. -/
def rec1 (g : GSem nD τ sig) : sProp 𝕄 := iprop((∃ κ : ℕ, cellInv ER (Rd m) κ g) ∗ reached ER g 0)
instance rec1_persistent (g : GSem nD τ sig) : BI.Persistent (rec1 m g) := by unfold rec1; infer_instance
def recs : sProp 𝕄 := bigSep Finset.univ fun p : Dev nD × Fin 67 => rec1 m (kcell p)
instance recs_persistent : BI.Persistent (recs m) := by unfold recs; infer_instance

theorem recs_get (p : Dev nD × Fin 67) : recs m ⊢ rec1 m (kcell p) :=
  by
  unfold recs; rw [bigSep_erase (Finset.mem_univ p)]; exact sep_elim_left
theorem recs_bar (c : Dev nD) : recs m ⊢ rec1 m (barC c) := recs_get m (c, 0)
theorem recs_dma (c : Dev nD) (n : DmaSem sig) (h : 1 ≤ n.val ∧ n.val ≤ 66) : recs m ⊢ rec1 m (cell c n) := by
  have e : kcell (c, ⟨n.val, by omega⟩) = cell c n := by
    show (_, ksem _) = _
    unfold ksem
    rw [if_neg (by show ¬ n.val = 0; omega)]
  rw [← e]; exact recs_get m _

/-! ## What is owed, and in what order things are waited for -/

abbrev OT : Type := CellTallies nD τ sig Unit

theorem tsum_pos {n : ℕ} {a : Fin n → OT} {g : GSem nD τ sig} {u : Unit} (h : 0 < (∑ k, a k) g u) : ∃ k, 0 < a k g u := by
  by_contra hn
  rw [Finset.sum_apply, Finsupp.finset_sum_apply, Finset.sum_eq_zero] at h
  · exact Nat.lt_irrefl 0 h
  · intro k _; exact Nat.eq_zero_of_not_pos fun hk => hn ⟨k, hk⟩
theorem tally_pos {g₀ g : GSem nD τ sig} {N : ℕ} {u : Unit} (h : 0 < (tallyAt g₀ () N : OT) g u) : g = g₀ := by
  by_contra hn
  rw [tallyAt_apply, if_neg (fun h' => hn h'.1)] at h
  exact Nat.lt_irrefl 0 h
theorem add_pos' {a b : OT} {g : GSem nD τ sig} {u : Unit} (h : 0 < (a + b) g u) : 0 < a g u ∨ 0 < b g u := by
  rw [Pi.add_apply, Finsupp.add_apply] at h; omega

/-- The sends from number `q` on, to device `p`, on the semaphores `s`. -/
def OFrom (p : Dev nD) (s : Fin 16 → DmaSem sig) (q : ℕ) : OT :=
  ∑ k : Fin 16, if q ≤ k.val then tallyAt (cell p (s k)) () NB else 0
theorem OFrom_next (p : Dev nD) (s : Fin 16 → DmaSem sig) (q : Fin 16) :
    OFrom p s q.val = OFrom p s (q.val + 1) + tallyAt (cell p (s q)) () NB := by
  unfold OFrom
  have h : (tallyAt (cell p (s q)) () NB : OT) = ∑ k : Fin 16, if k = q then tallyAt (cell p (s k)) () NB else 0 := by
    rw [Finset.sum_ite_eq' Finset.univ q, if_pos (Finset.mem_univ q)]
  rw [h, ← Finset.sum_add_distrib]
  refine Finset.sum_congr rfl fun k _ => ?_
  by_cases h1 : k = q
  · subst h1; rw [if_pos le_rfl, if_neg (by omega), if_pos rfl, zero_add]
  · have : k.val ≠ q.val := fun h => h1 (Fin.ext h)
    by_cases h2 : q.val ≤ k.val
    · rw [if_pos h2, if_pos (by omega), if_neg h1, add_zero]
    · rw [if_neg h2, if_neg (by omega), if_neg h1, add_zero]
theorem OFrom_end (p : Dev nD) (s : Fin 16 → DmaSem sig) : OFrom p s 16 = 0 :=
  Finset.sum_eq_zero fun k _ => if_neg (by have := k.isLt; omega)
theorem OFrom_pos {p : Dev nD} {s : Fin 16 → DmaSem sig} {q : ℕ} {g : GSem nD τ sig} {u : Unit} (h : 0 < OFrom p s q g u) :
    ∃ k : Fin 16, q ≤ k.val ∧ g = cell p (s k) := by
  obtain ⟨k, hk⟩ := tsum_pos h
  by_cases hq : q ≤ k.val
  · rw [if_pos hq] at hk; exact ⟨k, hq, tally_pos hk⟩
  · rw [if_neg hq] at hk; exact absurd hk (Nat.lt_irrefl 0)

/-- What is still owed with `qy` blocks sent along `y`, `qz` along `z`, and the row sums not. -/
def OW (c : Dev nD) (qy qz : ℕ) : OT := OFrom (py c) yrS qy + OFrom (pz c) zrS qz + tallyAt (cell (py c) srS) () NS
theorem OW_y (c : Dev nD) (q : Fin 16) (qz : ℕ) :
    OW c q.val qz = OW c (q.val + 1) qz + tallyAt (cell (py c) (yrS q)) () NB := by
  unfold OW; rw [OFrom_next, add_right_comm (OFrom (py c) yrS (q.val + 1)), add_right_comm]
theorem OW_z (c : Dev nD) (qy : ℕ) (q : Fin 16) :
    OW c qy q.val = OW c qy (q.val + 1) + tallyAt (cell (pz c) (zrS q)) () NB := by
  unfold OW; rw [OFrom_next _ _ q, ← add_assoc, add_right_comm]
theorem OW_s (c : Dev nD) : OW c 16 16 = 0 + tallyAt (cell (py c) srS) () NS := by
  unfold OW; rw [OFrom_end, OFrom_end, zero_add]
/-- What is owed at the start: also a unit to each partner's barrier. -/
def O₁ (c : Dev nD) : OT := OW c 0 0 + tallyAt (barC (pz c)) () 1
def O₀ (c : Dev nD) : OT := O₁ c + tallyAt (barC (py c)) () 1

def L (g : GSem nD τ sig) : Finset Unit := if g.1.2 = .tc then {()} else ∅
def lvn (n : ℕ) : ℕ := if 17 ≤ n ∧ n ≤ 32 then 2 else if (49 ≤ n ∧ n ≤ 64) ∨ n = 66 then 3 else 0
def lvs : SemLoc sig → ℕ
  | .dma n => lvn n.val
  | _ => 1
def lv (g : GSem nD τ sig) (_ : Unit) : ℕ := lvs g.2

theorem lv_yr (k : Fin 16) : lvs (.dma (yrS k)) = 2 := by
  have hk := k.isLt
  show lvn (yrS k : DmaSem sig).val = _
  rw [yrS_val]; unfold lvn; exact if_pos (by omega)
theorem lv_zr (k : Fin 16) : lvs (.dma (zrS k)) = 3 := by
  have hk := k.isLt
  show lvn (zrS k : DmaSem sig).val = _
  rw [zrS_val]; unfold lvn; rw [if_neg (by omega)]; exact if_pos (by omega)
theorem lv_sr : lvs (.dma srS) = 3 := by
  show lvn (srS : DmaSem sig).val = _
  rw [srS_val]; unfold lvn; rw [if_neg (by omega)]; exact if_pos (by omega)
theorem lv_bar : lvs (.reg barS) = 1 := rfl
theorem lv_own (n : DmaSem sig) (h : n.val = 0 ∨ 67 ≤ n.val) : lvs (.dma n) = 0 := by
  show lvn n.val = _
  unfold lvn; rw [if_neg (by omega)]; exact if_neg (by omega)

theorem L_of_ne (g : GSem nD τ sig) (h : g.1.2 ≠ .tc) : L g = ∅ := if_neg h
theorem L_tc (c : Dev nD) (sm : SemLoc sig) : L ((c : Thread nD τ), sm) = {()} := if_pos rfl

/-- A wait below everything owed. -/
theorem mw (c : Dev nD) (sm : SemLoc sig) (O : OT)
    (hO : ∀ g u, 0 < O g u → g.1.2 = .tc ∧ lvs sm < lvs g.2) :
    (levAts L lv : sProp 𝕄) ⊢ MayWait (c : Thread nD τ) sm () O :=
  MayOwe.of_cut (L := L) (lev := lv) (lvs sm)
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_rfl)
    (fun g u hg => (hO g u hg).2)

theorem OW_lv {c : Dev nD} {qy qz : ℕ} {g : GSem nD τ sig} {u : Unit} (h : 0 < OW c qy qz g u) :
    g.1.2 = .tc ∧ 2 ≤ lvs g.2 := by
  unfold OW at h
  rcases add_pos' h with h | h
  · rcases add_pos' h with h | h
    · obtain ⟨k, -, rfl⟩ := OFrom_pos h; exact ⟨rfl, (lv_yr k).ge⟩
    · obtain ⟨k, -, rfl⟩ := OFrom_pos h; exact ⟨rfl, (lv_zr k).ge.trans' (by decide)⟩
  · rw [tally_pos h]; exact ⟨rfl, lv_sr.ge.trans' (by decide)⟩
theorem OW16_lv {c : Dev nD} {qz : ℕ} {g : GSem nD τ sig} {u : Unit} (h : 0 < OW c 16 qz g u) :
    g.1.2 = .tc ∧ 3 ≤ lvs g.2 := by
  unfold OW at h
  rw [OFrom_end, zero_add] at h
  rcases add_pos' h with h | h
  · obtain ⟨k, -, rfl⟩ := OFrom_pos h; exact ⟨rfl, (lv_zr k).ge⟩
  · rw [tally_pos h]; exact ⟨rfl, lv_sr.ge⟩
theorem O₀_lv {c : Dev nD} {g : GSem nD τ sig} {u : Unit} (h : 0 < O₀ c g u) : g.1.2 = .tc ∧ 1 ≤ lvs g.2 := by
  unfold O₀ O₁ at h
  rcases add_pos' h with h | h
  · rcases add_pos' h with h | h
    · have := OW_lv h; exact ⟨this.1, by omega⟩
    · rw [tally_pos h]; exact ⟨rfl, le_rfl⟩
  · rw [tally_pos h]; exact ⟨rfl, le_rfl⟩

/-- A wait for one of the device's own transfers. -/
theorem mw_own (c : Dev nD) (n : DmaSem sig) (h : n.val = 0 ∨ 67 ≤ n.val) (qy qz : ℕ) :
    (levAts L lv : sProp 𝕄) ⊢ MayWait (c : Thread nD τ) (.dma n) () (OW c qy qz) :=
  mw c _ _ fun g u hg => ⟨(OW_lv hg).1, by rw [lv_own n h]; have := (OW_lv hg).2; omega⟩
theorem mw_stage (c : Dev nD) (n : DmaSem sig) (h : n.val = 0 ∨ 67 ≤ n.val) :
    (levAts L lv : sProp 𝕄) ⊢ MayWait (c : Thread nD τ) (.dma n) () (O₀ c) :=
  mw c _ _ fun g u hg => ⟨(O₀_lv hg).1, by rw [lv_own n h]; have := (O₀_lv hg).2; omega⟩
theorem mw_bar (c : Dev nD) : (levAts L lv : sProp 𝕄) ⊢ MayWait (c : Thread nD τ) (.reg barS) () (OW c 0 0) :=
  mw c _ _ fun g u hg => ⟨(OW_lv hg).1, by rw [lv_bar]; have := (OW_lv hg).2; omega⟩
theorem mw_yr (c : Dev nD) (k : Fin 16) (qz : ℕ) :
    (levAts L lv : sProp 𝕄) ⊢ MayWait (c : Thread nD τ) (.dma (yrS k)) () (OW c 16 qz) :=
  mw c _ _ fun g u hg => ⟨(OW16_lv hg).1, by rw [lv_yr]; have := (OW16_lv hg).2; omega⟩
theorem mw_zero (c : Dev nD) (sm : SemLoc sig) : (BI.emp : sProp 𝕄) ⊢ MayWait (c : Thread nD τ) sm () 0 := by
  rw [MayWait_zero]

end Cert.KernelIdeal.Run

end
-- ==== Proof.Steps.lean ====
/-
The rules the run is put together from: one for a wait on a cell of the ledger, one for a transfer
to another device, one for a copy within the device and its wait, one for a loop.
-/
module

public import proofs.«01_k».proof.Proof.Sched

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig Unit (Elt F) ℕ UU ℕ

abbrev 𝒱₀ : Variants := Variants.none

/-- Running `p` on device `c` ends in `Q`. -/
abbrev run (c : Dev nD) (p : P F) (Q : PUnit → sProp 𝕄) : sProp 𝕄 :=
  wp frame (wpE (defs₀ (F := F)) 𝒱₀ (c : Thread nD τ) none) Set.univ p Q

/-- Device `c` owes `O`. -/
def OWE (c : Dev nD) (O : OT) : sProp 𝕄 := iprop(∃ W, owes (c : Thread nD τ) O W)

variable (m : (ℓ : Loc nD τ sig) → Buf (Elt F) ℓ)

/-- What stays true of the whole run. -/
def ctx : sProp 𝕄 := iprop(recs m ∗ levAts L lv)
instance ctx_persistent : BI.Persistent (ctx m) := by unfold ctx; infer_instance

/-- The units a semaphore of the ledger waits for. -/
def amt (n : DmaSem sig) : ℕ := if n.val ≤ 64 then NB else NS

theorem amt_ys (k : Fin 16) : amt (ysS k) = NB := if_pos (by have := k.isLt; rw [ysS_val]; omega)
theorem amt_yr (k : Fin 16) : amt (yrS k) = NB := if_pos (by have := k.isLt; rw [yrS_val]; omega)
theorem amt_zs (k : Fin 16) : amt (zsS k) = NB := if_pos (by have := k.isLt; rw [zsS_val]; omega)
theorem amt_zr (k : Fin 16) : amt (zrS k) = NB := if_pos (by have := k.isLt; rw [zrS_val]; omega)
theorem amt_ss : amt ssS = NS := if_neg (by rw [ssS_val]; omega)
theorem amt_sr : amt srS = NS := if_neg (by rw [srS_val]; omega)
theorem in_ys (k : Fin 16) : 1 ≤ (ysS k).val ∧ (ysS k).val ≤ 66 := by have := k.isLt; rw [ysS_val]; omega
theorem in_yr (k : Fin 16) : 1 ≤ (yrS k).val ∧ (yrS k).val ≤ 66 := by have := k.isLt; rw [yrS_val]; omega
theorem in_zs (k : Fin 16) : 1 ≤ (zsS k).val ∧ (zsS k).val ≤ 66 := by have := k.isLt; rw [zsS_val]; omega
theorem in_zr (k : Fin 16) : 1 ≤ (zrS k).val ∧ (zrS k).val ≤ 66 := by have := k.isLt; rw [zrS_val]; omega
theorem in_ss : 1 ≤ (ssS : DmaSem sig).val ∧ (ssS : DmaSem sig).val ≤ 66 := by rw [ssS_val]; omega
theorem in_sr : 1 ≤ (srS : DmaSem sig).val ∧ (srS : DmaSem sig).val ≤ 66 := by rw [srS_val]; omega

/-- A write, on the view's elements, when `G` reads there what is written. -/
theorem write_on {sp : Space} {s : Shape} {e : EltTy} (M : View sig .tc sp s e)
    (w : s.Idx → Elt F e) (G f : M.ref.ty.Contents (Elt F)) (h : ∀ x, M.read (Elt F) G x = w x) (i : M.ref.ty.shape.Idx) (hi : i ∈ M.set) :
    M.write (Elt F) f w Finset.univ i = G i := by
  obtain ⟨x, -, rfl⟩ := Finset.mem_map.mp hi
  rw [View.write_emb_of_mem _ _ (Finset.mem_univ x), ← h x, View.read_apply]
  simp

/-- A write that leaves on the view's elements what `G` has there. -/
theorem pts_write {sp : Space} {s : Shape} {e : EltTy} (M : Memref sig .tc sp s e) (c : Dev nD) (q : PosShare TreeShare)
    (w : s.Idx → Elt F e) (G f : Buf (Elt F) (M.view.loc (c : Thread nD τ)))
    (h : ∀ x, M.view.read (Elt F) G x = w x) :
    (pts M c q (M.view.write (Elt F) f w Finset.univ) : sProp 𝕄) = pts M c q G :=
  pointsTo_congr fun i hi => write_on M.view w G f h i hi

/-- One member of a family taken out, to be put back changed, when the others change along. -/
theorem bigSep_upd {I : Type} [Fintype I] [DecidableEq I] (k : I) {Φ Φ' : I → sProp 𝕄} (h : ∀ j, j ≠ k → Φ j ⊢ Φ' j) :
    bigSep Finset.univ Φ ⊢ iprop(Φ k ∗ (Φ' k -∗ bigSep Finset.univ Φ')) := by
  have e : ∀ Ψ : I → sProp 𝕄, bigSep Finset.univ Ψ = iprop(Ψ k ∗ bigSep (Finset.univ.erase k) Ψ) :=
    fun Ψ => bigSep_erase (Finset.mem_univ k)
  rw [e Φ, e Φ']
  iintro ⟨Hk, Hr⟩
  isplitl [Hk]; · iexact Hk
  iintro Hk'
  isplitl [Hk']; · iexact Hk'
  have hm : (bigSep (Finset.univ.erase k) Φ : sProp 𝕄) ⊢ bigSep (Finset.univ.erase k) Φ' :=
    bigSep_mono fun j hj => h j (Finset.ne_of_mem_erase hj)
  iapply hm $$ Hr

/-- A loop, by what each step keeps. -/
theorem run_loop {N : ℕ} {σ : Type} (c : Dev nD) (Q : PUnit → sProp 𝕄) (step : Fin N → σ → (σ → P F) → P F) (I : ℕ → σ → sProp 𝕄)
    (h : ∀ (i : Fin N) (s : σ) (k : σ → P F), iprop(I i.val s ∗ (∀ s', I (i.val + 1) s' -∗ run c (k s') Q)) ⊢ run c (step i s k) Q) :
    ∀ (n i : ℕ) (hi : i + n = N) (s : σ) (k : σ → P F),
      iprop(I i s ∗ (∀ s', I N s' -∗ run c (k s') Q)) ⊢ run c (loop step n i hi s k) Q := by
  intro n
  induction n with
  | zero =>
    intro i hi s k
    obtain rfl : i = N := by omega
    show _ ⊢ run c (k s) Q
    iintro ⟨HI, Hk⟩
    iapply Hk $$ HI
  | succ n ih =>
    intro i hi s k
    refine BIBase.Entails.trans ?_ (h ⟨i, by omega⟩ s _)
    iintro ⟨HI, Hk⟩
    isplitl [HI]; · iexact HI
    iintro %s' HI
    iapply (ih (i + 1) _ s' k)
    isplitl [HI]; · iexact HI
    iexact Hk

/-- Waiting on a cell of the ledger: what its transfer hands over comes, and the semaphore is at rest. -/
theorem run_waitX (c : Dev nD) (Q : PUnit → sProp 𝕄) (n : DmaSem sig) (hn : 1 ≤ n.val ∧ n.val ≤ 66) (O : OT) {sp sp' : Space} {s s' : Shape} {e e' : EltTy}
    {src : Memref sig .tc sp s e} {dst : Memref sig .tc sp' s' e'} {hsrc : src.view.WordExact} {hdst : dst.view.WordExact}
    (hN : dst.view.dmaCredit = amt n) {k : PUnit → P F} :
    iprop(recs m ∗ OWE c O ∗ MayWait (c : Thread nD τ) (.dma n) () O ∗ cred (tallyAt (cell c n) () (amt n)) ∗ atPos ER (cell c n) 0 ∅ 0
      ∗ ((OWE c O ∗ semVal (cell c n) 0 ∗ (Rd m).payload (cell c n) 0 false) -∗ run c (k ⟨⟩) Q))
    ⊢ run c (.op (.waitDma2 n src dst hsrc hdst) k) Q := by
  iintro ⟨#HR, HO, HM, Hc, Hat, Hk⟩
  ihave #HI := (recs_dma m c n hn) $$ HR
  unfold rec1 OWE
  icases HI with ⟨⟨%κ, #HI⟩, #Hr⟩
  icases HO with ⟨%W, HO⟩
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, hN, expect_dma m c n hn]; rfl)) $$ [Hc HO HM Hat]
  · isplitr; · iexact HI
    isplitl [Hc]; · rw [hN]; iexact Hc
    isplitl [HO]; · iexact HO
    isplitl [HM]; · iexact HM
    iexact Hat
  iintro ⟨HO, Hat, -, Hpay⟩
  imod (Rounds.cell_close ER (Rd m) (Set.mem_univ κ) (fun h => h) (R := 0 + 1) (duties_later m (cell c n))) $$ [Hat] with Hz
  · isplitr; · iexact HI
    iexact Hat
  iapply Hk
  isplitl [HO]; · iexists _; iexact HO
  isplitl [Hz]; · iexact Hz
  iapply (Entails.of_eq (rest_dma m c n hn)); iexact Hpay

/-- A transfer from device `c` to device `p`. -/
theorem run_sendX (c n p : Dev nD) (hn : n = p) (Q : PUnit → sProp 𝕄) (sS sR : DmaSem sig) (hS : 1 ≤ sS.val ∧ sS.val ≤ 66)
    (hR : 1 ≤ sR.val ∧ sR.val ≤ 66) (N : ℕ) (hNS : amt sS = N) (hNR : amt sR = N) (O : OT) {sp sp' : Space} {s : Shape} {e : EltTy}
    {src : Memref sig .tc sp s e} {dst : Memref sig .tc sp' s e}
    {hsc : (dst : Memref sig (Dev.tc n : Thread nD τ).2.kind sp' s e).view.ref.isScScratch = false}
    {hsrc : src.view.WordExact} {hdst : dst.view.WordExact}
    {hsem : DmaTarget.Typed sp (.dma sR) (.remote (Dev.tc n : Thread nD τ) dst (.dma sS) hsc)}
    (hN : dst.view.amount (.dma sR : SemLoc sig) = N) (q : PosShare TreeShare)
    (fs : Buf (Elt F) (src.view.loc (c : Thread nD τ))) (G : Buf (Elt F) (dst.view.loc (p : Thread nD τ)))
    (hps : (Rd m).payload (cell c sS) 0 false = pts src c q fs)
    (hpr : (Rd m).payload (cell p sR) 0 false = pts dst p fullShare G)
    (hG : ∀ x, dst.view.read (Elt F) G x = src.view.read (Elt F) fs x) {k : PUnit → P F} :
    iprop(recs m ∗ OWE c (O + tallyAt (cell p sR) () N) ∗ dutyTok ER (cell c sS) 0 false ∗ dutyTok ER (cell p sR) 0 false
      ∗ pts src c q fs ∗ anyPts dst p ∗ ((OWE c O ∗ cred (tallyAt (cell c sS) () N)) -∗ run c (k ⟨⟩) Q))
    ⊢ run c (.op (.enqueueDma src (.remote (Dev.tc n : Thread nD τ) dst (.dma sS) hsc) (.dma sR) hsrc hdst hsem) k) Q := by
  subst hn
  iintro ⟨#HR, HO, Ht1, Ht2, Hs, ⟨%fd, Hd⟩, Hk⟩
  ihave #HI1 := (recs_dma m c sS hS) $$ HR
  ihave #HI2 := (recs_dma m n sR hR) $$ HR
  unfold rec1 OWE
  icases HI1 with ⟨⟨%κ₁, #HI1⟩, #Hr1⟩
  icases HI2 with ⟨⟨%κ₂, #HI2⟩, #Hr2⟩
  icases HO with ⟨%W, HO⟩
  iapply (Rounds.wp_send_pointsTo 𝒱₀ ER (Rd m) (c : Thread nD τ) none (κ₁ := κ₁) (κ₂ := κ₂)
    (r₁ := 0) (r₂ := 0) (d₁ := false) (d₂ := false) (fd := fd)
    (by rw [duties_dma m c sS hS]; exact Finset.mem_singleton_self _) (by rw [duties_dma m n sR hR]; exact Finset.mem_singleton_self _)
    () () N hN ((amount_dma m c sS false).trans hNS) ((amount_dma m n sR false).trans hNR) O rfl (W := W)
    (by rw [hps]) (by rw [hpr]; exact Entails.of_eq (pts_write dst n fullShare _ G fd hG))) $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- A copy within the device under way. -/
abbrev FL (c : Dev nD) (n : DmaSem sig) (N : ℕ) (D : sProp 𝕄) : sProp 𝕄 :=
  Transfers.Flight (countersEmb (U := UU)) (c : Thread nD τ) (.dma n) () N D

/-- A copy within the device. -/
theorem run_copy (c : Dev nD) (Q : PUnit → sProp 𝕄) (n : DmaSem sig) (N : ℕ) {sp sp' : Space} {s : Shape} {e : EltTy}
    {src : Memref sig .tc sp s e} {dst : Memref sig .tc sp' s e} {hsrc : src.view.WordExact} {hdst : dst.view.WordExact}
    {hsem : DmaTarget.Typed (nD := nD) (p := (.tc : Proc τ)) sp (.dma n) (.here dst)} (hN : dst.view.amount (.dma n : SemLoc sig) = N) (hN0 : 0 < N)
    (q : PosShare TreeShare) (fs : Buf (Elt F) (src.view.loc (c : Thread nD τ))) (G : Buf (Elt F) (dst.view.loc (c : Thread nD τ)))
    (hG : ∀ x, dst.view.read (Elt F) G x = src.view.read (Elt F) fs x) {k : PUnit → P F} :
    iprop(pts src c q fs ∗ anyPts dst c ∗ semVal (cell c n) 0 ∗ (FL c n N iprop(pts dst c fullShare G ∗ pts src c q fs) -∗ run c (k ⟨⟩) Q))
    ⊢ run c (.op (.enqueueDma src (.here dst) (.dma n) hsrc hdst hsem) k) Q := by
  iintro ⟨Hs, ⟨%fd, Hd⟩, Hv, Hk⟩
  iapply (Transfers.wp_dmaLocal (countersEmb (U := UU)) 𝒱₀ (c : Thread nD τ) none () N hN hN0 (fd := fd) (fs := fs) (q := q) (Finset.Subset.refl _)) $$ [Hs Hd Hv]
  · isplitl [Hs]; · iexact Hs
    isplitl [Hd]; · iexact Hd
    iexact Hv
  iintro HF
  iapply Hk
  iapply (Transfers.Flight_mono (countersEmb (U := UU)) (c : Thread nD τ) (sm := .dma n) (ι := ()) (N := N) (sep_mono_left (Entails.of_eq (pts_write dst c fullShare _ G fd hG)))) $$ HF

/-- Its wait. -/
theorem run_waitC (c : Dev nD) (Q : PUnit → sProp 𝕄) (n : DmaSem sig) (N : ℕ) (O : OT) {sp sp' : Space} {s s' : Shape} {e e' : EltTy}
    {src : Memref sig .tc sp s e} {dst : Memref sig .tc sp' s' e'} {hsrc : src.view.WordExact} {hdst : dst.view.WordExact}
    (hN : dst.view.dmaCredit = N) (D : sProp 𝕄) {k : PUnit → P F} :
    iprop(FL c n N D ∗ OWE c O ∗ MayWait (c : Thread nD τ) (.dma n) () O ∗ ((D ∗ semVal (cell c n) 0 ∗ OWE c O) -∗ run c (k ⟨⟩) Q))
    ⊢ run c (.op (.waitDma2 n src dst hsrc hdst) k) Q := by
  unfold OWE
  iintro ⟨HF, ⟨%W, HO⟩, HM, Hk⟩
  iapply (Transfers.wp_waitLocalO (countersEmb (U := UU)) 𝒱₀ (c : Thread nD τ) none () hN (D := D) (O := O) (W := W)) $$ [HF HO HM]
  · isplitl [HF]; · iexact HF
    isplitl [HO]; · iexact HO
    iexact HM
  iintro ⟨HD, Hv, HO⟩
  iapply Hk
  isplitl [HD]; · iexact HD
  isplitl [Hv]; · iexact Hv
  iexists _; iexact HO

end Cert.KernelIdeal.Run

end
-- ==== Proof.Compute.lean ====
/-
The first two loops: each step waits for its weight block, starts the next, computes the block's
exponentials; the first loop sends them along `y`, the second forwards along `z` what came.
-/
module

public import proofs.«01_k».proof.Proof.Steps

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig Unit (Elt F) ℕ UU ℕ

variable (m : (ℓ : Loc nD τ sig) → Buf (Elt F) ℓ)

/-! ## The weight -/

def wArr (c : Dev nD) : Buf (Elt F) (wM.view.loc (c : Thread nD τ)) := m ((c : Thread nD τ).loc main_arg1)
def NW : ℕ := (wSlot 0).view.dmaCredit
theorem NW_pos : 0 < NW := View.dmaCredit_pos _ (by decide)

/-- A slot of the weight, free. -/
def WFree (c : Dev nD) (s : Fin 2) : sProp 𝕄 := iprop(anyPts (wSlot s) c ∗ semVal (cell c (wS s)) 0)
/-- The weight, whole. -/
def WAll (c : Dev nD) : sProp 𝕄 := wM.view.loc (c : Thread nD τ) ↦[Finset.univ]{fullShare} wArr m c
/-- Block `p` on its way to its slot. -/
def WFly (c : Dev nD) (p : Fin 32) : sProp 𝕄 :=
  iprop(FL c (wS (par p.val)) NW iprop(pts (wSlot (par p.val)) c fullShare (wbC m c p) ∗ pts (wSrc c p) c fullShare (wArr m c))
    ∗ (wM.view.loc (c : Thread nD τ) ↦[Finset.univ \ (wSrc c p).view.set]{fullShare} wArr m c))

/-- Before step `p`: its block on its way, the other slot free; after the last, both free. -/
def IW (c : Dev nD) (p : ℕ) : sProp 𝕄 :=
  iprop((if h : p < 32 then WFly m c ⟨p, h⟩ else iprop(WAll m c ∗ WFree c (par p))) ∗ WFree c (par (p + 1)))

theorem par_two (p : ℕ) : par (p + 1 + 1) = par p := Fin.ext (by simp only [par]; omega)

theorem run_startW (c : Dev nD) (Q : PUnit → sProp 𝕄) (p : Fin 32) (k : P F) :
    iprop(WAll m c ∗ WFree c (par p.val) ∗ (WFly m c p -∗ run c k Q)) ⊢ run c (startW c p k) Q := by
  unfold WAll WFree startW
  iintro ⟨HW, ⟨Hs, Hv⟩, Hk⟩
  ihave HW2 := (pointsTo_split_subset (Finset.subset_univ (wSrc c p).view.set)).1 $$ HW
  icases HW2 with ⟨Hsrc, Hrest⟩
  iapply (run_copy c Q (wS (par p.val)) NW (src := wSrc c p) (dst := wSlot (par p.val)) rfl NW_pos fullShare (wArr m c) (wbC m c p)
    (wSlot_read m c p (par p.val)))
  isplitl [Hsrc]; · iexact Hsrc
  isplitl [Hs]; · iexact Hs
  isplitl [Hv]; · iexact Hv
  iintro HF
  iapply Hk
  unfold WFly
  isplitl [HF]; · iexact HF
  iexact Hrest

/-- Starting the next load, if there is one: from the whole weight and the other slot. -/
theorem run_nextW (c : Dev nD) (Q : PUnit → sProp 𝕄) (p : Fin 32) (k : P F) :
    iprop(WAll m c ∗ WFree c (par (p.val + 1)) ∗ ((WFree c (par p.val) -∗ IW m c (p.val + 1)) -∗ run c k Q)) ⊢ run c (nextW c p k) Q := by
  unfold nextW IW
  by_cases h : p.val + 1 < 32
  · rw [dif_pos h, dif_pos h, par_two]
    iintro ⟨HW, Hs, Hk⟩
    iapply (run_startW m c Q ⟨p.val + 1, h⟩ k)
    isplitl [HW]; · iexact HW
    isplitl [Hs]; · iexact Hs
    iintro HF
    iapply Hk
    iintro Hs
    isplitl [HF]; · iexact HF
    iexact Hs
  · rw [dif_neg h, dif_neg h, par_two]
    iintro ⟨HW, Hs, Hk⟩
    iapply Hk
    iintro Hs'
    isplitl [HW Hs]
    · isplitl [HW]; · iexact HW
      iexact Hs
    iexact Hs'

/-! ## A step of the computation -/

/-- The activations, in place. -/
def XIn (c : Dev nD) : sProp 𝕄 := xM.view.loc (c : Thread nD τ) ↦[Finset.univ]{fullShare} xstg m c

theorem eL_sub (p : Fin 32) : (eM : Memref sig .tc .vmem S32x1024x512 .bf16).view.setOn (eR p).toLoadRect.set ⊆ (eB p).view.set := by
  intro i hi
  obtain ⟨x, hx, rfl⟩ := Finset.mem_map.mp hi
  rw [eB_mem]
  have h0 : p.val ≤ (x 0).val ∧ (x 0).val < p.val + 1 := (Rect.mem_set_unit.mp hx) 0
  show (x 0).val = p.val
  omega

theorem run_compute (c : Dev nD) (Q : PUnit → sProp 𝕄) (p : Fin 32) (qy qz : ℕ) (k : FVec F S1024x512 .f32 → P F) :
    iprop(ctx m ∗ IW m c p.val ∗ XIn m c ∗ anyPts (eB p) c ∗ OWE c (OW c qy qz)
      ∗ ((IW m c (p.val + 1) ∗ XIn m c ∗ pts (eB p) c fullShare (eBuf m c) ∗ OWE c (OW c qy qz)) -∗ run c (k (accV m c (p.val + 1))) Q))
    ⊢ run c (compute c p (accV m c p.val) k) Q := by
  rw [show IW m c p.val = iprop(WFly m c p ∗ WFree c (par (p.val + 1))) from by unfold IW; rw [dif_pos p.isLt]]
  unfold ctx WFly compute
  iintro ⟨⟨#HR, #Hlev⟩, ⟨⟨HF, Hrest⟩, Hs'⟩, HX, ⟨%f, He⟩, HO, Hk⟩
  iapply (run_waitC c Q (wS (par p.val)) NW (OW c qy qz) (src := wSrc c p) (dst := wSlot (par p.val)) rfl _)
  isplitl [HF]; · iexact HF
  isplitl [HO]; · iexact HO
  isplitr; · iapply (mw_own c _ (Or.inr (by rw [wS_val]; omega)) qy qz); iexact Hlev
  iintro ⟨⟨Hw, Hsrc⟩, Hv, HO⟩
  iapply (run_nextW m c Q p)
  isplitl [Hsrc Hrest]
  · unfold WAll
    iapply (pointsTo_split_subset (Finset.subset_univ (wSrc c p).view.set)).2
    isplitl [Hsrc]; · iexact Hsrc
    iexact Hrest
  isplitl [Hs']; · iexact Hs'
  iintro HI
  iapply (wp_load 𝒱₀ (c : Thread nD τ) none Set.univ (m := wbM) (wR_sub (par p.val))) $$ Hw; iintro Hw
  unfold XIn
  iapply (wp_load 𝒱₀ (c : Thread nD τ) none Set.univ (m := xM) (Finset.subset_univ _)) $$ HX; iintro HX
  iapply (wp_load 𝒱₀ (c : Thread nD τ) none Set.univ (m := eM) (eL_sub p)) $$ He; iintro He
  iapply (wp_store 𝒱₀ (c : Thread nD τ) none Set.univ (m := eM) (r := eR p) (Mk := Finset.univ) (eA_set p).subset) $$ He; iintro He
  rw [show addf (accV m c p.val) (expBlk (wbM.view.readAt (Elt F) (wR (par p.val)).toLoadRect (wbC m c p))
    (xM.view.readAt (Elt F) (Rect.unit (s := S1024x2048) ![0, 0] S1024x2048.size inb_S1024x2048_S1024x2048_0_0).toLoadRect (xstg m c)))
    = accV m c (p.val + 1) from accV_succ m c p]
  iapply Hk
  isplitl [HI Hw Hv]
  · iapply HI
    unfold WFree
    isplitl [Hw]; · iexists _; iexact Hw
    iexact Hv
  isplitl [HX]; · iexact HX
  isplitl [He]
  · have hE : ((eM.access (eR p)).loc (c : Thread nD τ) ↦[(eB p).view.set]{fullShare}
        (eM.access (eR p)).write (Elt F) f (narBlk (eV m c p)) Finset.univ : sProp 𝕄) = pts (eB p) c fullShare (eBuf m c) :=
      pointsTo_congr fun i hi => write_on (eM.access (eR p)) _ (eBuf m c) f (eA_read m c p) i (by rw [eA_set]; exact hi)
    iapply (Entails.of_eq hE); iexact He
  iexact HO

/-! ## The first loop -/

/-- Block `k` of the first half: to be computed and sent (`q ≤ k`), or sent. -/
def FY (c : Dev nD) (q : ℕ) (k : Fin 16) : sProp 𝕄 :=
  if q ≤ k.val then iprop(anyPts (eB (lo k)) c ∗ dutyTok ER (cell c (ysS k)) 0 false ∗ dutyTok ER (cell (py c) (yrS k)) 0 false
    ∗ anyPts (ryB k) (py c))
  else iprop(pts (eB (lo k)) c fullShare.left (eBuf m c) ∗ cred (tallyAt (cell c (ysS k)) () NB))

theorem le_succ_iff {q : Fin 16} {j : Fin 16} (h : j ≠ q) : q.val + 1 ≤ j.val ↔ q.val ≤ j.val := by
  have : j.val ≠ q.val := fun e => h (Fin.ext e)
  omega

theorem FY_step (c : Dev nD) (q : Fin 16) :
    bigSep Finset.univ (FY m c q.val) ⊢ iprop((anyPts (eB (lo q)) c ∗ dutyTok ER (cell c (ysS q)) 0 false
      ∗ dutyTok ER (cell (py c) (yrS q)) 0 false ∗ anyPts (ryB q) (py c))
      ∗ ((pts (eB (lo q)) c fullShare.left (eBuf m c) ∗ cred (tallyAt (cell c (ysS q)) () NB)) -∗ bigSep Finset.univ (FY m c (q.val + 1)))) := by
  refine (bigSep_upd q (Φ' := FY m c (q.val + 1)) fun j hj => ?_).trans ?_
  · unfold FY; simp only [le_succ_iff hj]; exact BIBase.Entails.rfl
  · rw [show FY m c q.val q = _ from if_pos le_rfl, show FY m c (q.val + 1) q = _ from if_neg (by omega)]

/-- The whole share of a block is its two halves. -/
theorem pts_halves {sp : Space} {s : Shape} {e : EltTy} (M : Memref sig .tc sp s e) (c : Dev nD) (f : Buf (Elt F) (M.view.loc (c : Thread nD τ))) :
    (pts M c fullShare f : sProp 𝕄) ⊣⊢ iprop(pts M c fullShare.left f ∗ pts M c fullShare.right f) :=
  pointsTo_share (PosShare.mem_left_op_right fullShare)

theorem run_sendY (c : Dev nD) (Q : PUnit → sProp 𝕄) (q : Fin 16) (qz : ℕ) (k : P F) :
    iprop(ctx m ∗ OWE c (OW c q.val qz) ∗ dutyTok ER (cell c (ysS q)) 0 false ∗ dutyTok ER (cell (py c) (yrS q)) 0 false
      ∗ pts (eB (lo q)) c fullShare (eBuf m c) ∗ anyPts (ryB q) (py c)
      ∗ ((OWE c (OW c (q.val + 1) qz) ∗ pts (eB (lo q)) c fullShare.left (eBuf m c) ∗ cred (tallyAt (cell c (ysS q)) () NB)) -∗ run c k Q))
    ⊢ run c (sendY c q k) Q := by
  unfold ctx sendY
  rw [OW_y]
  iintro ⟨⟨#HR, #Hlev⟩, HO, Ht1, Ht2, He, Hd, Hk⟩
  ihave He2 := (pts_halves (eB (lo q)) c (eBuf m c)).1 $$ He
  icases He2 with ⟨HeL, HeR⟩
  iapply (run_sendX m c _ (py c) (dev3_eq c) Q (ysS q) (yrS q) (in_ys q) (in_yr q) NB (amt_ys q) (amt_yr q) (OW c (q.val + 1) qz)
    (src := eB (lo q)) (dst := ryB q) rfl fullShare.right (eBuf m c) (ryBuf m (py c)) (payload_ys m c q false) (payload_yr m (py c) q false)
    (fun x => (ryB_read m (py c) q x).trans (by rw [py_py]; rfl)))
  isplitr; · iexact HR
  isplitl [HO]; · iexact HO
  isplitl [Ht1]; · iexact Ht1
  isplitl [Ht2]; · iexact Ht2
  isplitl [HeR]; · iexact HeR
  isplitl [Hd]; · iexact Hd
  iintro ⟨HO, Hc⟩
  iapply Hk
  isplitl [HO]; · iexact HO
  isplitl [HeL]; · iexact HeL
  iexact Hc

/-- Before step `q` of the first loop. -/
def I1 (c : Dev nD) (q : ℕ) (a : FVec F S1024x512 .f32) : sProp 𝕄 :=
  iprop(⌜a = accV m c q⌝ ∗ IW m c q ∗ XIn m c ∗ OWE c (OW c q 0) ∗ bigSep Finset.univ (FY m c q))

theorem run_step1 (c : Dev nD) (Q : PUnit → sProp 𝕄) (q : Fin 16) (a : FVec F S1024x512 .f32) (k : FVec F S1024x512 .f32 → P F) :
    iprop(ctx m ∗ I1 m c q.val a ∗ (∀ a', I1 m c (q.val + 1) a' -∗ run c (k a') Q)) ⊢ run c (step1 c q a k) Q := by
  unfold I1 step1
  iintro ⟨#HC, ⟨%ha, HW, HX, HO, HF⟩, Hk⟩
  subst ha
  ihave HF2 := (FY_step m c q) $$ HF
  icases HF2 with ⟨⟨He, Ht1, Ht2, Hd⟩, HF⟩
  iapply (run_compute m c Q (lo q) q.val 0)
  isplitr; · iexact HC
  isplitl [HW]; · iexact HW
  isplitl [HX]; · iexact HX
  isplitl [He]; · iexact He
  isplitl [HO]; · iexact HO
  iintro ⟨HW, HX, He, HO⟩
  iapply (run_sendY m c Q q 0)
  isplitr; · iexact HC
  isplitl [HO]; · iexact HO
  isplitl [Ht1]; · iexact Ht1
  isplitl [Ht2]; · iexact Ht2
  isplitl [He]; · iexact He
  isplitl [Hd]; · iexact Hd
  iintro ⟨HO, He, Hc⟩
  iapply Hk
  isplitr; · ipureintro; rfl
  isplitl [HW]; · iexact HW
  isplitl [HX]; · iexact HX
  isplitl [HO]; · iexact HO
  iapply HF
  isplitl [He]; · iexact He
  iexact Hc

/-! ## The second loop -/

/-- Block `k` of the second half, and block `k` of what comes along `y`: to come, or come and forwarded. -/
def FZ (c : Dev nD) (q : ℕ) (k : Fin 16) : sProp 𝕄 :=
  if q ≤ k.val then iprop(anyPts (eB (hi k)) c ∗ (cred (tallyAt (cell c (yrS k)) () NB) ∗ atPos ER (cell c (yrS k)) 0 ∅ 0)
    ∗ (dutyTok ER (cell c (zsS k)) 0 false ∗ dutyTok ER (cell (pz c) (zrS k)) 0 false) ∗ anyPts (rzB k) (pz c))
  else iprop(pts (eB (hi k)) c fullShare (eBuf m c) ∗ pts (ryB k) c fullShare.left (ryBuf m c)
    ∗ cred (tallyAt (cell c (zsS k)) () NB) ∗ semVal (cell c (yrS k)) 0)

theorem FZ_step (c : Dev nD) (q : Fin 16) :
    bigSep Finset.univ (FZ m c q.val) ⊢ iprop((anyPts (eB (hi q)) c ∗ (cred (tallyAt (cell c (yrS q)) () NB) ∗ atPos ER (cell c (yrS q)) 0 ∅ 0)
        ∗ (dutyTok ER (cell c (zsS q)) 0 false ∗ dutyTok ER (cell (pz c) (zrS q)) 0 false) ∗ anyPts (rzB q) (pz c))
      ∗ ((pts (eB (hi q)) c fullShare (eBuf m c) ∗ pts (ryB q) c fullShare.left (ryBuf m c)
        ∗ cred (tallyAt (cell c (zsS q)) () NB) ∗ semVal (cell c (yrS q)) 0) -∗ bigSep Finset.univ (FZ m c (q.val + 1)))) := by
  refine (bigSep_upd q (Φ' := FZ m c (q.val + 1)) fun j hj => ?_).trans ?_
  · unfold FZ; simp only [le_succ_iff hj]; exact BIBase.Entails.rfl
  · rw [show FZ m c q.val q = _ from if_pos le_rfl, show FZ m c (q.val + 1) q = _ from if_neg (by omega)]

theorem run_sendZ (c : Dev nD) (Q : PUnit → sProp 𝕄) (q : Fin 16) (k : P F) :
    iprop(ctx m ∗ OWE c (OW c 16 q.val) ∗ dutyTok ER (cell c (zsS q)) 0 false ∗ dutyTok ER (cell (pz c) (zrS q)) 0 false
      ∗ pts (ryB q) c fullShare (ryBuf m c) ∗ anyPts (rzB q) (pz c)
      ∗ ((OWE c (OW c 16 (q.val + 1)) ∗ pts (ryB q) c fullShare.left (ryBuf m c) ∗ cred (tallyAt (cell c (zsS q)) () NB)) -∗ run c k Q))
    ⊢ run c (sendZ c q k) Q := by
  unfold ctx sendZ
  rw [OW_z]
  iintro ⟨⟨#HR, #Hlev⟩, HO, Ht1, Ht2, He, Hd, Hk⟩
  ihave He2 := (pts_halves (ryB q) c (ryBuf m c)).1 $$ He
  icases He2 with ⟨HeL, HeR⟩
  iapply (run_sendX m c _ (pz c) (dev19_eq c) Q (zsS q) (zrS q) (in_zs q) (in_zr q) NB (amt_zs q) (amt_zr q) (OW c 16 (q.val + 1))
    (src := ryB q) (dst := rzB q) rfl fullShare.right (ryBuf m c) (rzBuf m (pz c)) (payload_zs m c q false) (payload_zr m (pz c) q false)
    (fun x => (rzB_read m (pz c) q x).trans (by rw [pz_pz])))
  isplitr; · iexact HR
  isplitl [HO]; · iexact HO
  isplitl [Ht1]; · iexact Ht1
  isplitl [Ht2]; · iexact Ht2
  isplitl [HeR]; · iexact HeR
  isplitl [Hd]; · iexact Hd
  iintro ⟨HO, Hc⟩
  iapply Hk
  isplitl [HO]; · iexact HO
  isplitl [HeL]; · iexact HeL
  iexact Hc

/-- Before step `q` of the second loop. -/
def I2 (c : Dev nD) (q : ℕ) (a : FVec F S1024x512 .f32) : sProp 𝕄 :=
  iprop(⌜a = accV m c (16 + q)⌝ ∗ IW m c (16 + q) ∗ XIn m c ∗ OWE c (OW c 16 q) ∗ bigSep Finset.univ (FZ m c q))

theorem run_step2 (c : Dev nD) (Q : PUnit → sProp 𝕄) (q : Fin 16) (a : FVec F S1024x512 .f32) (k : FVec F S1024x512 .f32 → P F) :
    iprop(ctx m ∗ I2 m c q.val a ∗ (∀ a', I2 m c (q.val + 1) a' -∗ run c (k a') Q)) ⊢ run c (step2 c q a k) Q := by
  unfold I2 step2 waitYr
  iintro ⟨#HC, ⟨%ha, HW, HX, HO, HF⟩, Hk⟩
  subst ha
  ihave HF2 := (FZ_step m c q) $$ HF
  icases HF2 with ⟨⟨He, ⟨Hcr, Hat⟩, ⟨Ht1, Ht2⟩, Hd⟩, HF⟩
  have hC : ctx m ⊢ iprop(recs m ∗ levAts L lv) := by unfold ctx; exact BIBase.Entails.rfl
  ihave #HC2 := hC $$ HC
  icases HC2 with ⟨#HR, #Hlev⟩
  iapply (run_waitX m c Q (yrS q) (in_yr q) (OW c 16 q.val) (src := eB ⟨q.val, _⟩) (dst := ryB q) (amt_yr q).symm)
  isplitr; · iexact HR
  isplitl [HO]; · iexact HO
  isplitr; · iapply (mw_yr c q q.val); iexact Hlev
  isplitl [Hcr]; · rw [amt_yr]; iexact Hcr
  isplitl [Hat]; · iexact Hat
  rw [payload_yr]
  iintro ⟨HO, Hz, Hp⟩
  iapply (run_sendZ m c Q q)
  isplitr; · iexact HC
  isplitl [HO]; · iexact HO
  isplitl [Ht1]; · iexact Ht1
  isplitl [Ht2]; · iexact Ht2
  isplitl [Hp]; · iexact Hp
  isplitl [Hd]; · iexact Hd
  iintro ⟨HO, Hp, Hc⟩
  iapply (run_compute m c Q (hi q) 16 (q.val + 1))
  isplitr; · iexact HC
  isplitl [HW]; · iexact HW
  isplitl [HX]; · iexact HX
  isplitl [He]; · iexact He
  isplitl [HO]; · iexact HO
  iintro ⟨HW, HX, He, HO⟩
  iapply Hk
  isplitr; · ipureintro; rfl
  isplitl [HW]; · iexact HW
  isplitl [HX]; · iexact HX
  isplitl [HO]; · iexact HO
  iapply HF
  isplitl [He]; · iexact He
  isplitl [Hp]; · iexact Hp
  isplitl [Hc]; · iexact Hc
  iexact Hz

end Cert.KernelIdeal.Run

end
-- ==== Proof.Tiles.lean ====
/-
The exchange of the row sums, the tiles of the output, the read-backs, and the last waits.
-/
module

public import proofs.«01_k».proof.Proof.Compute

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig Unit (Elt F) ℕ UU ℕ

variable (m : (ℓ : Loc nD τ sig) → Buf (Elt F) ℓ)

/-! ## The row sums -/

theorem sM_all (c : Dev nD) (S : Finset (Idx (sM.view.loc (c : Thread nD τ)))) : S ⊆ sM.view.set := by
  rw [show sM.view.set = Finset.univ from View.set_whole _]; exact Finset.subset_univ _
theorem srM_all (c : Dev nD) (S : Finset (Idx (srM.view.loc (c : Thread nD τ)))) : S ⊆ srM.view.set := by
  rw [show srM.view.set = Finset.univ from View.set_whole _]; exact Finset.subset_univ _

theorem zero2 : (![0, 0] : Fin 2 → Nat) = fun _ => 0 := funext fun a => by fin_cases a <;> rfl

theorem run_sums (c : Dev nD) (Q : PUnit → sProp 𝕄) (k : FVec F S1024x1 .bf16 → P F) :
    iprop(ctx m ∗ OWE c (OW c 16 16) ∗ (dutyTok ER (cell c ssS) 0 false ∗ dutyTok ER (cell (py c) srS) 0 false)
      ∗ anyPts sM c ∗ anyPts srM (py c) ∗ (cred (tallyAt (cell c srS) () NS) ∗ atPos ER (cell c srS) 0 ∅ 0)
      ∗ ((OWE c 0 ∗ cred (tallyAt (cell c ssS) () NS) ∗ pts srM c fullShare (srBuf m c) ∗ semVal (cell c srS) 0) -∗ run c (k (invV m c)) Q))
    ⊢ run c (sums c (accV m c 32) k) Q := by
  have hC : ctx m ⊢ iprop(recs m ∗ levAts L lv) := by unfold ctx; exact BIBase.Entails.rfl
  unfold sums
  iintro ⟨#HC, HO, ⟨Ht1, Ht2⟩, ⟨%f, Hs⟩, Hd, ⟨Hcr, Hat⟩, Hk⟩
  ihave #HC2 := hC $$ HC
  icases HC2 with ⟨#HR, #Hlev⟩
  iapply (wp_load 𝒱₀ (c : Thread nD τ) none Set.univ (m := sM) (sM_all c _)) $$ Hs; iintro Hs
  iapply (wp_store 𝒱₀ (c : Thread nD τ) none Set.univ (m := sM)
    (r := Rect.unit (s := S1024x128) ![0, 0] S1024x128.size inb_S1024x128_S1024x128_0_0) (Mk := Finset.univ) (sM_all c _)) $$ Hs; iintro Hs
  rw [show (sM.access (Rect.unit (s := S1024x128) ![0, 0] S1024x128.size inb_S1024x128_S1024x128_0_0)).write (Elt F) f
      (sumWide (rowSum (accV m c 32))) Finset.univ = sBuf m c from
    Memref.write_access_unit_zero_univ (Elt F) cc0_scratch4 zero2 _ f _]
  rw [OW_s]
  iapply (run_sendX m c _ (py c) (dev35_eq c) Q ssS srS in_ss in_sr NS amt_ss amt_sr 0
    (src := sM) (dst := srM) rfl fullShare (sBuf m c) (srBuf m (py c)) (payload_ss m c false) (payload_sr m (py c) false)
    (fun x => by
      rw [View.read_whole, View.read_whole]
      show sBuf m (py (py c)) x = _
      rw [py_py]))
  isplitr; · iexact HR
  isplitl [HO]; · iexact HO
  isplitl [Ht1]; · iexact Ht1
  isplitl [Ht2]; · iexact Ht2
  isplitl [Hs]; · iexact Hs
  isplitl [Hd]; · iexact Hd
  iintro ⟨HO, Hc⟩
  iapply (run_waitX m c Q srS in_sr 0 (src := sM) (dst := srM) amt_sr.symm)
  isplitr; · iexact HR
  isplitl [HO]; · iexact HO
  isplitr; · iapply (mw_zero c _); iempintro
  isplitl [Hcr]; · rw [amt_sr]; iexact Hcr
  isplitl [Hat]; · iexact Hat
  rw [payload_sr]
  iintro ⟨HO, Hz, Hp⟩
  iapply (wp_load 𝒱₀ (c : Thread nD τ) none Set.univ (m := srM) (srM_all c _)) $$ Hp; iintro Hp
  iapply Hk
  isplitl [HO]; · iexact HO
  isplitl [Hc]; · iexact Hc
  isplitl [Hp]; · iexact Hp
  iexact Hz

/-! ## The tiles -/

def NO : ℕ := (stSlot 0).view.dmaCredit
theorem NO_pos : 0 < NO := View.dmaCredit_pos _ (by decide)

/-- A slot of the output, free. -/
def SFree (c : Dev nD) (s : Fin 2) : sProp 𝕄 := iprop(anyPts (stSlot s) c ∗ semVal (cell c (stS s)) 0)

/-- Tile `k` when the first `t` have been started and the first `w` have been waited for. -/
def FO (c : Dev nD) (w t : ℕ) (k : Fin 32) : sProp 𝕄 :=
  if t ≤ k.val then anyPts (oT c k) c
  else if w ≤ k.val then FL c (stS (par k.val)) NO iprop(pts (oT c k) c fullShare (outBuf m c) ∗ pts (stSlot (par k.val)) c fullShare (stC m c k))
  else pts (oT c k) c fullShare (outBuf m c)

/-- The slots no tile has used when `n` have been started. -/
def SFam (c : Dev nD) (n : ℕ) : sProp 𝕄 :=
  iprop((if n ≤ 0 then SFree c 0 else emp) ∗ (if n ≤ 1 then SFree c 1 else emp))

/-- Before tile `n`. -/
def OS (c : Dev nD) (n : ℕ) : sProp 𝕄 := iprop(bigSep Finset.univ (FO m c (n - 2) n) ∗ SFam c n)

theorem ne_val {N : ℕ} {j q : Fin N} (h : j ≠ q) : j.val ≠ q.val := fun e => h (Fin.ext e)
theorem succ_le_iff {N : ℕ} {j q : Fin N} (h : j ≠ q) : q.val + 1 ≤ j.val ↔ q.val ≤ j.val := by
  have := ne_val h
  omega

theorem FO_wait (c : Dev nD) (n : Fin 32) (t : ℕ) (ht : n.val < t) :
    bigSep Finset.univ (FO m c n.val t) ⊢ iprop(FL c (stS (par n.val)) NO iprop(pts (oT c n) c fullShare (outBuf m c) ∗ pts (stSlot (par n.val)) c fullShare (stC m c n))
      ∗ (pts (oT c n) c fullShare (outBuf m c) -∗ bigSep Finset.univ (FO m c (n.val + 1) t))) := by
  refine (bigSep_upd n (Φ' := FO m c (n.val + 1) t) fun j hj => ?_).trans ?_
  · unfold FO; simp only [succ_le_iff hj]; exact BIBase.Entails.rfl
  · rw [show FO m c n.val t n = _ from (if_neg (by omega)).trans (if_pos le_rfl),
      show FO m c (n.val + 1) t n = _ from (if_neg (by omega)).trans (if_neg (by omega))]
theorem FO_start (c : Dev nD) (n : Fin 32) (w : ℕ) (hw : w ≤ n.val) :
    bigSep Finset.univ (FO m c w n.val) ⊢ iprop(anyPts (oT c n) c
      ∗ (FL c (stS (par n.val)) NO iprop(pts (oT c n) c fullShare (outBuf m c) ∗ pts (stSlot (par n.val)) c fullShare (stC m c n))
        -∗ bigSep Finset.univ (FO m c w (n.val + 1)))) := by
  refine (bigSep_upd n (Φ' := FO m c w (n.val + 1)) fun j hj => ?_).trans ?_
  · unfold FO; simp only [succ_le_iff hj]; exact BIBase.Entails.rfl
  · rw [show FO m c w n.val n = _ from if_pos le_rfl,
      show FO m c w (n.val + 1) n = _ from (if_neg (by omega)).trans (if_pos hw)]

theorem run_waitO (c : Dev nD) (Q : PUnit → sProp 𝕄) (n : Fin 32) (t : ℕ) (ht : n.val < t) (k : P F) :
    iprop(OWE c 0 ∗ bigSep Finset.univ (FO m c n.val t)
      ∗ ((OWE c 0 ∗ bigSep Finset.univ (FO m c (n.val + 1) t) ∗ SFree c (par n.val)) -∗ run c k Q))
    ⊢ run c (waitO c n k) Q := by
  unfold waitO SFree
  iintro ⟨HO, HF, Hk⟩
  ihave HF2 := (FO_wait m c n t ht) $$ HF
  icases HF2 with ⟨HL, HF⟩
  iapply (run_waitC c Q (stS (par n.val)) NO 0 (src := stSlot (par n.val)) (dst := oT c n) rfl _)
  isplitl [HL]; · iexact HL
  isplitl [HO]; · iexact HO
  isplitr; · iapply (mw_zero c _); iempintro
  iintro ⟨⟨Ht, Hs⟩, Hv, HO⟩
  iapply Hk
  isplitl [HO]; · iexact HO
  isplitl [HF Ht]; · iapply HF; iexact Ht
  isplitl [Hs]; · iexists _; iexact Hs
  iexact Hv

theorem run_freeO (c : Dev nD) (Q : PUnit → sProp 𝕄) (n : Fin 32) (k : P F) :
    iprop(OWE c 0 ∗ OS m c n.val
      ∗ ((OWE c 0 ∗ bigSep Finset.univ (FO m c (n.val - 1) n.val) ∗ SFam c (n.val + 1) ∗ SFree c (par n.val)) -∗ run c k Q))
    ⊢ run c (freeO c n k) Q := by
  unfold freeO OS
  by_cases h : 2 ≤ n.val
  · rw [dif_pos h]
    have hn := n.isLt
    have e1 : n.val - 2 + 1 = n.val - 1 := by omega
    have e2 : par (n.val - 2) = par n.val := Fin.ext (by simp only [par]; omega)
    have e3 : SFam (F := F) c n.val = SFam c (n.val + 1) := by
      unfold SFam; rw [if_neg (by omega), if_neg (by omega), if_neg (by omega), if_neg (by omega)]
    have key : iprop(OWE c 0 ∗ bigSep Finset.univ (FO m c (n.val - 2) n.val)
          ∗ ((OWE c 0 ∗ bigSep Finset.univ (FO m c (n.val - 1) n.val) ∗ SFree c (par n.val)) -∗ run c k Q))
        ⊢ run c (waitO c ⟨n.val - 2, by omega⟩ k) Q := by
      rw [← e1, ← e2]
      exact run_waitO m c Q ⟨n.val - 2, by omega⟩ n.val (by show n.val - 2 < n.val; omega) k
    rw [e3]
    iintro ⟨HO, ⟨HF, HS⟩, Hk⟩
    iapply key
    isplitl [HO]; · iexact HO
    isplitl [HF]; · iexact HF
    iintro ⟨HO, HF, Hs⟩
    iapply Hk
    isplitl [HO]; · iexact HO
    isplitl [HF]; · iexact HF
    isplitl [HS]; · iexact HS
    iexact Hs
  · rw [dif_neg h]
    have e1 : n.val - 2 = n.val - 1 := by omega
    have e3 : SFam (F := F) c n.val ⊢ iprop(SFam c (n.val + 1) ∗ SFree c (par n.val)) := by
      have h01 : n = 0 ∨ n = 1 := by
        rcases Nat.lt_or_ge n.val 1 with h1 | h1
        · exact .inl (Fin.ext (by show n.val = 0; omega))
        · exact .inr (Fin.ext (by show n.val = 1; omega))
      unfold SFam
      rcases h01 with rfl | rfl
      · rw [show par ((0 : Fin 32).val) = 0 from rfl, if_pos (by decide), if_pos (by decide), if_neg (by decide), if_pos (by decide)]
        iintro ⟨H0, H1⟩
        isplitl [H1]
        · isplitr; · iempintro
          iexact H1
        iexact H0
      · rw [show par ((1 : Fin 32).val) = 1 from rfl, if_neg (by decide), if_pos (by decide), if_neg (by decide), if_neg (by decide)]
        iintro ⟨-, H1⟩
        isplitr
        · isplitr <;> iempintro
        iexact H1
    rw [e1]
    iintro ⟨HO, ⟨HF, HS⟩, Hk⟩
    ihave HS2 := e3 $$ HS
    icases HS2 with ⟨HS, Hs⟩
    iapply Hk
    isplitl [HO]; · iexact HO
    isplitl [HF]; · iexact HF
    isplitl [HS]; · iexact HS
    iexact Hs

/-- Storing one half into a slot. -/
theorem run_putO (c : Dev nD) (Q : PUnit → sProp 𝕄) (s h : Fin 2) (a : FVec F S1024x512 .bf16)
    (f : Buf (Elt F) ((stSlot s).view.loc (c : Thread nD τ))) (k : P F) :
    iprop(pts (stSlot s) c fullShare f
      ∗ (pts (stSlot s) c fullShare ((stM.access (stR s h)).write (Elt F) f (half a) Finset.univ) -∗ run c k Q))
    ⊢ run c (putO s h a k) Q := by
  unfold putO
  iintro ⟨Hs, Hk⟩
  iapply (wp_load 𝒱₀ (c : Thread nD τ) none Set.univ (m := stM) (stL_sub s h)) $$ Hs; iintro Hs
  iapply (wp_store 𝒱₀ (c : Thread nD τ) none Set.univ (m := stM) (r := stR s h) (Mk := Finset.univ) (stA_sub s h)) $$ Hs; iintro Hs
  iapply Hk $$ Hs

/-- The two halves stored, the slot holds the tile. -/
theorem put_both (c : Dev nD) (n : Fin 32) (s : Fin 2) (f : Buf (Elt F) ((stSlot s).view.loc (c : Thread nD τ))) :
    (pts (stSlot s) c fullShare ((stM.access (stR s 1)).write (Elt F) ((stM.access (stR s 0)).write (Elt F) f (half (tv m c n 0)) Finset.univ)
      (half (tv m c n 1)) Finset.univ) : sProp 𝕄) = pts (stSlot s) c fullShare (stC m c n) := by
  refine pointsTo_congr fun i hi => ?_
  have h0 := (stSlot_mem s i).1 hi
  have h2 : (i 2).val < 1024 := (i 2).isLt
  by_cases h : (i 2).val / 512 = 1
  · exact write_on (stM.access (stR s 1)) _ (stC m c n) _ (stA_read m c n s 1) i ((stA_mem s 1 i).2 ⟨h0, h⟩)
  · refine (View.write_of_not_mem (v := stM.access (stR s 1)) _ _ _ (i := i) fun hm => h ((stA_mem s 1 i).1 hm).2).trans ?_
    exact write_on (stM.access (stR s 0)) _ (stC m c n) f (stA_read m c n s 0) i ((stA_mem s 0 i).2 ⟨h0, by show (i 2).val / 512 = 0; omega⟩)

theorem run_stageO (c : Dev nD) (Q : PUnit → sProp 𝕄) (n : Fin 32) (k : P F) :
    iprop(OWE c 0 ∗ OS m c n.val ∗ ((OWE c 0 ∗ OS m c (n.val + 1)) -∗ run c k Q))
    ⊢ run c (stageO c n (tv m c n 0) (tv m c n 1) k) Q := by
  unfold stageO
  iintro ⟨HO, HS, Hk⟩
  iapply (run_freeO m c Q n)
  isplitl [HO]; · iexact HO
  isplitl [HS]; · iexact HS
  unfold SFree
  iintro ⟨HO, HF, HS, ⟨%f, Hs⟩, Hv⟩
  iapply (run_putO c Q (par n.val) 0)
  isplitl [Hs]; · iexact Hs
  iintro Hs
  iapply (run_putO c Q (par n.val) 1)
  isplitl [Hs]; · iexact Hs
  rw [put_both m c n (par n.val) f]
  iintro Hs
  ihave HF2 := (FO_start m c n (n.val - 1) (by omega)) $$ HF
  icases HF2 with ⟨Ht, HF⟩
  iapply (run_copy c Q (stS (par n.val)) NO (src := stSlot (par n.val)) (dst := oT c n) rfl NO_pos fullShare (stC m c n) (outBuf m c)
    (oT_read m c n (par n.val)))
  isplitl [Hs]; · iexact Hs
  isplitl [Ht]; · iexact Ht
  isplitl [Hv]; · iexact Hv
  iintro HL
  iapply Hk
  isplitl [HO]; · iexact HO
  unfold OS
  rw [show n.val + 1 - 2 = n.val - 1 from by omega]
  isplitl [HF HL]; · iapply HF; iexact HL
  iexact HS

/-! ## The tiles of the device's own blocks -/

/-- The exponentials, half of them held. -/
def EL (c : Dev nD) : sProp 𝕄 := eM.view.loc (c : Thread nD τ) ↦[Finset.univ]{fullShare.left} eBuf m c

def I3 (c : Dev nD) (n : ℕ) (_ : Unit) : sProp 𝕄 := iprop(OWE c 0 ∗ OS m c n ∗ EL m c)

theorem run_step3 (c : Dev nD) (Q : PUnit → sProp 𝕄) (n : Fin 16) (u : Unit) (k : Unit → P F) :
    iprop(I3 m c n.val u ∗ (∀ u', I3 m c (n.val + 1) u' -∗ run c (k u') Q)) ⊢ run c (step3 c (invV m c) n u k) Q := by
  unfold I3 step3 EL
  iintro ⟨⟨HO, HS, HE⟩, Hk⟩
  iapply (wp_load 𝒱₀ (c : Thread nD τ) none Set.univ (m := eM) (Finset.subset_univ _)) $$ HE; iintro HE
  iapply (wp_load 𝒱₀ (c : Thread nD τ) none Set.univ (m := eM) (Finset.subset_univ _)) $$ HE; iintro HE
  have hn : (lo n).val < 16 := n.isLt
  have e0 : scaleE (invV m c) (eM.view.readAt (Elt F) (eR ⟨2 * n.val, by omega⟩).toLoadRect (eBuf m c)) = tv m c (lo n) 0 := by
    unfold tv; rw [dif_pos hn]; rfl
  have e1 : scaleE (invV m c) (eM.view.readAt (Elt F) (eR ⟨2 * n.val + 1, by omega⟩).toLoadRect (eBuf m c)) = tv m c (lo n) 1 := by
    unfold tv; rw [dif_pos hn]; rfl
  rw [e0, e1]
  iapply (run_stageO m c Q (lo n))
  isplitl [HO]; · iexact HO
  isplitl [HS]; · iexact HS
  iintro ⟨HO, HS⟩
  iapply Hk
  isplitl [HO]; · iexact HO
  isplitl [HS]; · iexact HS
  iexact HE

/-! ## The read-backs -/

def NE : ℕ := (edSlot 0).view.dmaCredit
theorem NE_pos : 0 < NE := View.dmaCredit_pos _ (by decide)

/-- A slot of the read-backs, free. -/
def DFree (c : Dev nD) (s : Fin 2) : sProp 𝕄 := iprop(anyPts (edSlot s) c ∗ semVal (cell c (edS s)) 0)

/-- The two numbers of a pair. -/
def ev (j : Fin 8) : Fin 16 := ⟨2 * j.val, by omega⟩
def od (j : Fin 8) : Fin 16 := ⟨2 * j.val + 1, by omega⟩
theorem dbly_mem (j : Fin 8) (i : S16x1024x512.Idx) :
    i ∈ (dbl ryM j).view.set ↔ 2 * j.val ≤ (i 0).val ∧ (i 0).val < 2 * j.val + 2 := by
  have h : (dbl ryM j).view.set = (Rect.unit (s := S16x1024x512) ![2 * j.val, 0, 0] S2x1024x512.size (inbRR j)).set :=
    View.set_slice_whole _ _
  rw [h]; exact mem_lead (2 * j.val) 2 i
theorem pts_join2 {ℓ : Loc nD τ sig} {A B C : Finset (Idx ℓ)} (q : PosShare TreeShare) (f : Buf (Elt F) ℓ)
    (hC : ∀ i, i ∈ C ↔ i ∈ A ∨ i ∈ B) (hd : ∀ i, i ∈ A → i ∈ B → False) :
    iprop((ℓ ↦[A]{q} f) ∗ (ℓ ↦[B]{q} f)) ⊢ (ℓ ↦[C]{q} f : sProp 𝕄) := by
  rw [show C = A ∪ B from Finset.ext fun i => by rw [Finset.mem_union]; exact hC i]
  exact (pointsTo_union (Finset.disjoint_left.2 fun i ha hb => hd i ha hb)).2
theorem pair_y (c : Dev nD) (q : PosShare TreeShare) (j : Fin 8) (f : Buf (Elt F) (ryM.view.loc (c : Thread nD τ))) :
    iprop(pts (ryB (ev j)) c q f ∗ pts (ryB (od j)) c q f) ⊢ (pts (dbl ryM j) c q f : sProp 𝕄) :=
  pts_join2 q f
    (fun i => by
      rw [show i ∈ (dbl ryM j).view.set ↔ _ from dbly_mem j i, show i ∈ (ryB (ev j)).view.set ↔ _ from ryB_mem _ i,
        show i ∈ (ryB (od j)).view.set ↔ _ from ryB_mem _ i]
      simp only [ev, od]; omega)
    (fun i ha hb => by
      have ha' := (ryB_mem _ i).1 ha
      have hb' := (ryB_mem _ i).1 hb
      simp only [ev, od] at ha' hb'; omega)
theorem pair_z (c : Dev nD) (q : PosShare TreeShare) (j : Fin 8) (f : Buf (Elt F) (rzM.view.loc (c : Thread nD τ))) :
    iprop(pts (rzB (ev j)) c q f ∗ pts (rzB (od j)) c q f) ⊢ (pts (dbl rzM j) c q f : sProp 𝕄) :=
  pts_join2 q f
    (fun i => by
      rw [show i ∈ (dbl rzM j).view.set ↔ _ from dblz_mem j i, show i ∈ (rzB (ev j)).view.set ↔ _ from rzB_mem _ i,
        show i ∈ (rzB (od j)).view.set ↔ _ from rzB_mem _ i]
      simp only [ev, od]; omega)
    (fun i ha hb => by
      have ha' := (rzB_mem _ i).1 ha
      have hb' := (rzB_mem _ i).1 hb
      simp only [ev, od] at ha' hb'; omega)

/-- A block of the ledger still to be waited for. -/
def Zwait (c : Dev nD) (k : Fin 16) : sProp 𝕄 := iprop(cred (tallyAt (cell c (zrS k)) () NB) ∗ atPos ER (cell c (zrS k)) 0 ∅ 0)
/-- The number of a read-back from what came along `z`, among those. -/
def up8 (k : Fin 16) : Fin 8 := ⟨k.val - 8, by have := k.isLt; omega⟩

/-- What read-back `k` reads. -/
def Dsrc (c : Dev nD) (k : Fin 16) : sProp 𝕄 :=
  if h : k.val < 8 then pts (dbl ryM ⟨k.val, h⟩) c fullShare.left (ryBuf m c) else pts (dbl rzM (up8 k)) c fullShare (rzBuf m c)
/-- Its state before it is started, and the semaphores it leaves at rest. -/
def Dpre (c : Dev nD) (k : Fin 16) : sProp 𝕄 :=
  if h : k.val < 8 then pts (dbl ryM ⟨k.val, h⟩) c fullShare.left (ryBuf m c) else iprop(Zwait c (ev (up8 k)) ∗ Zwait c (od (up8 k)))
def Dsem (c : Dev nD) (k : Fin 16) : sProp 𝕄 :=
  if k.val < 8 then iprop(emp) else iprop(semVal (cell c (zrS (ev (up8 k)))) 0 ∗ semVal (cell c (zrS (od (up8 k)))) 0)
/-- Read-back `k` on its way. -/
def DFly (c : Dev nD) (k : Fin 16) : sProp 𝕄 :=
  FL c (edS (par k.val)) NE iprop(pts (edSlot (par k.val)) c fullShare (edC m c k) ∗ Dsrc m c k)

/-- Read-back `k` when the first `s` have been started and the first `w` have been waited for. -/
def FD (c : Dev nD) (w s : ℕ) (k : Fin 16) : sProp 𝕄 :=
  if s ≤ k.val then Dpre m c k else if w ≤ k.val then iprop(DFly m c k ∗ Dsem c k) else iprop(Dsrc m c k ∗ Dsem c k)

theorem FD_wait (c : Dev nD) (n : Fin 16) (s : ℕ) (hs : n.val < s) :
    bigSep Finset.univ (FD m c n.val s) ⊢ iprop((DFly m c n ∗ Dsem c n)
      ∗ ((Dsrc m c n ∗ Dsem c n) -∗ bigSep Finset.univ (FD m c (n.val + 1) s))) := by
  refine (bigSep_upd n (Φ' := FD m c (n.val + 1) s) fun j hj => ?_).trans ?_
  · unfold FD; simp only [succ_le_iff hj]; exact BIBase.Entails.rfl
  · rw [show FD m c n.val s n = _ from (if_neg (by omega)).trans (if_pos le_rfl),
      show FD m c (n.val + 1) s n = _ from (if_neg (by omega)).trans (if_neg (by omega))]
theorem FD_start (c : Dev nD) (n : Fin 16) (w : ℕ) (hw : w ≤ n.val) :
    bigSep Finset.univ (FD m c w n.val) ⊢ iprop(Dpre m c n
      ∗ ((DFly m c n ∗ Dsem c n) -∗ bigSep Finset.univ (FD m c w (n.val + 1)))) := by
  refine (bigSep_upd n (Φ' := FD m c w (n.val + 1)) fun j hj => ?_).trans ?_
  · unfold FD; simp only [succ_le_iff hj]; exact BIBase.Entails.rfl
  · rw [show FD m c w n.val n = _ from if_pos le_rfl,
      show FD m c w (n.val + 1) n = _ from (if_neg (by omega)).trans (if_pos hw)]

/-- Starting a read-back, whichever array it reads. -/
theorem run_copyD (c : Dev nD) (Q : PUnit → sProp 𝕄) (n : Fin 16) (src : Memref sig .tc .hbm S2x1024x512 .bf16) (hs : edSrc n = src)
    (q : PosShare TreeShare) (fs : Buf (Elt F) (src.view.loc (c : Thread nD τ)))
    (hG : ∀ x, (edSlot (par n.val)).view.read (Elt F) (edC m c n) x = src.view.read (Elt F) fs x)
    (hD : pts src c q fs = Dsrc m c n) (k : P F) :
    iprop(pts src c q fs ∗ DFree c (par n.val) ∗ (DFly m c n -∗ run c k Q))
    ⊢ run c (.op (.enqueueDma (edSrc n) (.here (edSlot (par n.val))) (.dma (edS (par n.val)))
      (edSrc_exact n) (edSlot_exact _) ⟨Or.inl rfl, trivial⟩) fun _ => k) Q := by
  subst hs
  unfold DFree DFly
  iintro ⟨Hs, ⟨Hd, Hv⟩, Hk⟩
  iapply (run_copy c Q (edS (par n.val)) NE (src := edSrc n) (dst := edSlot (par n.val)) rfl NE_pos q fs (edC m c n) hG)
  isplitl [Hs]; · iexact Hs
  isplitl [Hd]; · iexact Hd
  isplitl [Hv]; · iexact Hv
  rw [hD]
  iexact Hk

theorem run_waitZr (c : Dev nD) (Q : PUnit → sProp 𝕄) (q : Fin 16) (k : P F) :
    iprop(ctx m ∗ OWE c 0 ∗ Zwait c q ∗ ((OWE c 0 ∗ semVal (cell c (zrS q)) 0 ∗ pts (rzB q) c fullShare (rzBuf m c)) -∗ run c k Q))
    ⊢ run c (waitZr q k) Q := by
  have hC : ctx m ⊢ iprop(recs m ∗ levAts L lv) := by unfold ctx; exact BIBase.Entails.rfl
  unfold waitZr Zwait
  iintro ⟨#HC, HO, ⟨Hcr, Hat⟩, Hk⟩
  ihave #HC2 := hC $$ HC
  icases HC2 with ⟨#HR, #Hlev⟩
  iapply (run_waitX m c Q (zrS q) (in_zr q) 0 (src := ryB q) (dst := rzB q) (amt_zr q).symm)
  isplitr; · iexact HR
  isplitl [HO]; · iexact HO
  isplitr; · iapply (mw_zero c _); iempintro
  isplitl [Hcr]; · rw [amt_zr]; iexact Hcr
  isplitl [Hat]; · iexact Hat
  rw [payload_zr]
  iexact Hk

theorem run_startD (c : Dev nD) (Q : PUnit → sProp 𝕄) (n : Fin 16) (k : P F) :
    iprop(ctx m ∗ OWE c 0 ∗ Dpre m c n ∗ DFree c (par n.val) ∗ ((OWE c 0 ∗ DFly m c n ∗ Dsem c n) -∗ run c k Q))
    ⊢ run c (startD n k) Q := by
  unfold startD needD Dpre Dsem
  by_cases h : n.val < 8
  · rw [dif_neg (show ¬ 8 ≤ n.val by omega), dif_pos h, if_pos h]
    iintro ⟨#HC, HO, Hs, Hd, Hk⟩
    iapply (run_copyD m c Q n (dbl ryM ⟨n.val, h⟩) (dif_pos h) fullShare.left (ryBuf m c) (edSlot_read_y m c n h (par n.val))
      (by unfold Dsrc; rw [dif_pos h]))
    isplitl [Hs]; · iexact Hs
    isplitl [Hd]; · iexact Hd
    iintro HF
    iapply Hk
    isplitl [HO]; · iexact HO
    isplitl [HF]; · iexact HF
    iempintro
  · rw [dif_pos (show 8 ≤ n.val by omega), dif_neg h, if_neg h]
    iintro ⟨#HC, HO, ⟨Hz0, Hz1⟩, Hd, Hk⟩
    iapply (run_waitZr m c Q (ev (up8 n)))
    isplitr; · iexact HC
    isplitl [HO]; · iexact HO
    isplitl [Hz0]; · iexact Hz0
    iintro ⟨HO, Hv0, Hp0⟩
    iapply (run_waitZr m c Q (od (up8 n)))
    isplitr; · iexact HC
    isplitl [HO]; · iexact HO
    isplitl [Hz1]; · iexact Hz1
    iintro ⟨HO, Hv1, Hp1⟩
    iapply (run_copyD m c Q n (dbl rzM (up8 n)) (dif_neg h) fullShare (rzBuf m c) (edSlot_read_z m c n h (par n.val))
      (by unfold Dsrc; rw [dif_neg h]))
    isplitl [Hp0 Hp1]
    · iapply (pair_z c fullShare (up8 n) (rzBuf m c))
      isplitl [Hp0]; · iexact Hp0
      iexact Hp1
    isplitl [Hd]; · iexact Hd
    iintro HF
    iapply Hk
    isplitl [HO]; · iexact HO
    isplitl [HF]; · iexact HF
    isplitl [Hv0]; · iexact Hv0
    iexact Hv1

/-- Before tile `16 + n`: its read-back on its way, the other slot free; after the last, both free. -/
def ID (c : Dev nD) (n : ℕ) : sProp 𝕄 :=
  iprop(bigSep Finset.univ (FD m c n (min (n + 1) 16)) ∗ (if n < 16 then emp else DFree c (par n)) ∗ DFree c (par (n + 1)))

theorem run_nextD (c : Dev nD) (Q : PUnit → sProp 𝕄) (n : Fin 16) (k : P F) :
    iprop(ctx m ∗ OWE c 0 ∗ bigSep Finset.univ (FD m c (n.val + 1) (n.val + 1)) ∗ DFree c (par (n.val + 1))
      ∗ ((OWE c 0 ∗ (DFree c (par n.val) -∗ ID m c (n.val + 1))) -∗ run c k Q))
    ⊢ run c (nextD n k) Q := by
  unfold nextD ID
  rw [par_two]
  by_cases h : n.val + 1 < 16
  · rw [dif_pos h, if_pos h, show min (n.val + 1 + 1) 16 = n.val + 1 + 1 from by omega]
    iintro ⟨#HC, HO, HF, Hd, Hk⟩
    ihave HF2 := (FD_start m c ⟨n.val + 1, h⟩ (n.val + 1) le_rfl) $$ HF
    icases HF2 with ⟨Hp, HF⟩
    iapply (run_startD m c Q ⟨n.val + 1, h⟩)
    isplitr; · iexact HC
    isplitl [HO]; · iexact HO
    isplitl [Hp]; · iexact Hp
    isplitl [Hd]; · iexact Hd
    iintro ⟨HO, HL⟩
    iapply Hk
    isplitl [HO]; · iexact HO
    iintro Hd
    isplitl [HF HL]; · iapply HF; iexact HL
    isplitr; · iempintro
    iexact Hd
  · rw [dif_neg h, if_neg h, show min (n.val + 1 + 1) 16 = n.val + 1 from by omega]
    iintro ⟨#HC, HO, HF, Hd, Hk⟩
    iapply Hk
    isplitl [HO]; · iexact HO
    iintro Hd'
    isplitl [HF]; · iexact HF
    isplitl [Hd]; · iexact Hd
    iexact Hd'

def I4 (c : Dev nD) (n : ℕ) (_ : Unit) : sProp 𝕄 := iprop(OWE c 0 ∗ OS m c (16 + n) ∗ ID m c n)

theorem tv_hi (c : Dev nD) (n : Fin 16) (h : Fin 2) :
    tv m c (hi n) h = scaleD (invV m c) (edM.view.readAt (Elt F) (edR (par n.val) h).toLoadRect (edC m c n)) := by
  have key : ∀ j : Fin 16, j = n → scaleD (invV m c) (edM.view.readAt (Elt F) (edR (par j.val) h).toLoadRect (edC m c j))
      = scaleD (invV m c) (edM.view.readAt (Elt F) (edR (par n.val) h).toLoadRect (edC m c n)) := by
    rintro j rfl; rfl
  unfold tv
  rw [dif_neg (by show ¬ 16 + n.val < 16; omega)]
  exact key ⟨16 + n.val - 16, by omega⟩ (Fin.ext (by show 16 + n.val - 16 = n.val; omega))

theorem run_step4 (c : Dev nD) (Q : PUnit → sProp 𝕄) (n : Fin 16) (u : Unit) (k : Unit → P F) :
    iprop(ctx m ∗ I4 m c n.val u ∗ (∀ u', I4 m c (n.val + 1) u' -∗ run c (k u') Q)) ⊢ run c (step4 c (invV m c) n u k) Q := by
  have hn := n.isLt
  unfold I4 step4
  rw [show ID m c n.val = iprop(bigSep Finset.univ (FD m c n.val (n.val + 1)) ∗ emp ∗ DFree c (par (n.val + 1))) from by
    unfold ID; rw [if_pos hn, show min (n.val + 1) 16 = n.val + 1 from by omega]]
  iintro ⟨#HC, ⟨HO, HS, ⟨HF, -, Hd'⟩⟩, Hk⟩
  ihave HF2 := (FD_wait m c n (n.val + 1) (by omega)) $$ HF
  icases HF2 with ⟨⟨HL, Hsem⟩, HF⟩
  unfold DFly
  iapply (run_waitC c Q (edS (par n.val)) NE 0 (src := edSrc n) (dst := edSlot (par n.val)) rfl _)
  isplitl [HL]; · iexact HL
  isplitl [HO]; · iexact HO
  isplitr; · iapply (mw_zero c _); iempintro
  iintro ⟨⟨Hd, Hs⟩, Hv, HO⟩
  iapply (run_nextD m c Q n)
  isplitr; · iexact HC
  isplitl [HO]; · iexact HO
  isplitl [HF Hs Hsem]
  · iapply HF
    isplitl [Hs]; · iexact Hs
    iexact Hsem
  isplitl [Hd']; · iexact Hd'
  iintro ⟨HO, HI⟩
  iapply (wp_load 𝒱₀ (c : Thread nD τ) none Set.univ (m := edM) (edR_sub (par n.val) 0)) $$ Hd; iintro Hd
  iapply (wp_load 𝒱₀ (c : Thread nD τ) none Set.univ (m := edM) (edR_sub (par n.val) 1)) $$ Hd; iintro Hd
  rw [← tv_hi m c n 0, ← tv_hi m c n 1]
  iapply (run_stageO m c Q (hi n))
  isplitl [HO]; · iexact HO
  isplitl [HS]; · iexact HS
  iintro ⟨HO, HS⟩
  iapply Hk
  isplitl [HO]; · iexact HO
  isplitl [HS]; · iexact HS
  iapply HI
  unfold DFree
  isplitl [Hd]; · iexists _; iexact Hd
  iexact Hv

/-! ## The last waits -/

/-- Cell `k` of sixteen, to be waited for (`q ≤ k`) or at rest. -/
def FW (c : Dev nD) (s : Fin 16 → DmaSem sig) (q : ℕ) (k : Fin 16) : sProp 𝕄 :=
  if q ≤ k.val then iprop(cred (tallyAt (cell c (s k)) () NB) ∗ atPos ER (cell c (s k)) 0 ∅ 0)
  else iprop(semVal (cell c (s k)) 0 ∗ (Rd m).payload (cell c (s k)) 0 false)

theorem FW_step (c : Dev nD) (s : Fin 16 → DmaSem sig) (q : Fin 16) :
    bigSep Finset.univ (FW m c s q.val) ⊢ iprop((cred (tallyAt (cell c (s q)) () NB) ∗ atPos ER (cell c (s q)) 0 ∅ 0)
      ∗ ((semVal (cell c (s q)) 0 ∗ (Rd m).payload (cell c (s q)) 0 false) -∗ bigSep Finset.univ (FW m c s (q.val + 1)))) := by
  refine (bigSep_upd q (Φ' := FW m c s (q.val + 1)) fun j hj => ?_).trans ?_
  · unfold FW; simp only [succ_le_iff hj]; exact BIBase.Entails.rfl
  · rw [show FW m c s q.val q = _ from if_pos le_rfl, show FW m c s (q.val + 1) q = _ from if_neg (by omega)]

def I5 (c : Dev nD) (s : Fin 16 → DmaSem sig) (q : ℕ) (_ : Unit) : sProp 𝕄 := iprop(OWE c 0 ∗ bigSep Finset.univ (FW m c s q))

theorem run_waitS (c : Dev nD) (Q : PUnit → sProp 𝕄) (s : Fin 16 → DmaSem sig) (hs : ∀ k, 1 ≤ (s k).val ∧ (s k).val ≤ 66) (ha : ∀ k, amt (s k) = NB)
    (q : Fin 16) {sp sp' : Space} {sh sh' : Shape} {e e' : EltTy}
    {src : Memref sig .tc sp sh e} {dst : Memref sig .tc sp' sh' e'} {hsrc : src.view.WordExact} {hdst : dst.view.WordExact}
    (hN : dst.view.dmaCredit = NB) (u : Unit) (k : Unit → P F) :
    iprop(ctx m ∗ I5 m c s q.val u ∗ (∀ u', I5 m c s (q.val + 1) u' -∗ run c (k u') Q))
    ⊢ run c (.op (.waitDma2 (s q) src dst hsrc hdst) fun _ => k ⟨⟩) Q := by
  have hC : ctx m ⊢ iprop(recs m ∗ levAts L lv) := by unfold ctx; exact BIBase.Entails.rfl
  unfold I5
  iintro ⟨#HC, ⟨HO, HF⟩, Hk⟩
  ihave #HC2 := hC $$ HC
  icases HC2 with ⟨#HR, #Hlev⟩
  ihave HF2 := (FW_step m c s q) $$ HF
  icases HF2 with ⟨⟨Hcr, Hat⟩, HF⟩
  iapply (run_waitX m c Q (s q) (hs q) 0 (src := src) (dst := dst) (hN.trans (ha q).symm))
  isplitr; · iexact HR
  isplitl [HO]; · iexact HO
  isplitr; · iapply (mw_zero c _); iempintro
  isplitl [Hcr]; · rw [ha q]; iexact Hcr
  isplitl [Hat]; · iexact Hat
  iintro ⟨HO, Hz, Hp⟩
  iapply Hk
  isplitl [HO]; · iexact HO
  iapply HF
  isplitl [Hz]; · iexact Hz
  iexact Hp

theorem run_waitYs (c : Dev nD) (Q : PUnit → sProp 𝕄) (q : Fin 16) (u : Unit) (k : Unit → P F) :
    iprop((ctx m ∗ I5 m c ysS q.val u) ∗ (∀ u', (ctx m ∗ I5 m c ysS (q.val + 1) u') -∗ run c (k u') Q)) ⊢ run c (waitYs q (k ⟨⟩)) Q := by
  unfold waitYs
  iintro ⟨⟨#HC, HI⟩, Hk⟩
  iapply (run_waitS m c Q ysS in_ys amt_ys q (src := ryB q) (dst := eB (lo q)) (hsrc := ryB_exact q) (hdst := eB_exact _) rfl u k)
  isplitr; · iexact HC
  isplitl [HI]; · iexact HI
  iintro %u' HI
  iapply Hk
  isplitr; · iexact HC
  iexact HI
theorem run_waitZs (c : Dev nD) (Q : PUnit → sProp 𝕄) (q : Fin 16) (u : Unit) (k : Unit → P F) :
    iprop((ctx m ∗ I5 m c zsS q.val u) ∗ (∀ u', (ctx m ∗ I5 m c zsS (q.val + 1) u') -∗ run c (k u') Q)) ⊢ run c (waitZs q (k ⟨⟩)) Q := by
  unfold waitZs
  iintro ⟨⟨#HC, HI⟩, Hk⟩
  iapply (run_waitS m c Q zsS in_zs amt_zs q (src := rzB q) (dst := ryB q) (hsrc := rzB_exact q) (hdst := ryB_exact q) rfl u k)
  isplitr; · iexact HC
  isplitl [HI]; · iexact HI
  iintro %u' HI
  iapply Hk
  isplitr; · iexact HC
  iexact HI

theorem run_ret (c : Dev nD) (Q : PUnit → sProp 𝕄) : Q ⟨⟩ ⊢ run (F := F) c (.ret ⟨⟩) Q := by
  unfold run
  rw [wp_ret]
  iintro H
  imodintro
  iexact H

/-- The last waits: all the tiles are in place, every semaphore at rest. -/
theorem run_finish (c : Dev nD) (Q : PUnit → sProp 𝕄) :
    iprop(ctx m ∗ OWE c 0 ∗ bigSep Finset.univ (FW m c ysS 0) ∗ bigSep Finset.univ (FW m c zsS 0)
      ∗ (cred (tallyAt (cell c ssS) () NS) ∗ atPos ER (cell c ssS) 0 ∅ 0) ∗ bigSep Finset.univ (FO m c 30 32)
      ∗ ((OWE c 0 ∗ bigSep Finset.univ (FW m c ysS 16) ∗ bigSep Finset.univ (FW m c zsS 16)
        ∗ (semVal (cell c ssS) 0 ∗ pts sM c fullShare (sBuf m c)) ∗ bigSep Finset.univ (FO m c 32 32) ∗ SFree c 0 ∗ SFree c 1) -∗ Q ⟨⟩))
    ⊢ run c (finish c) Q := by
  have hC : ctx m ⊢ iprop(recs m ∗ levAts L lv) := by unfold ctx; exact BIBase.Entails.rfl
  unfold finish
  iintro ⟨#HC, HO, HY, HZ, ⟨Hcr, Hat⟩, HF, Hk⟩
  ihave #HC2 := hC $$ HC
  icases HC2 with ⟨#HR, #Hlev⟩
  iapply (run_loop c Q _ (fun q u => iprop(ctx m ∗ I5 m c ysS q u)) (fun q u k => run_waitYs m c Q q u k) 16 0 rfl)
  unfold I5
  isplitl [HO HY]
  · isplitr; · iexact HC
    isplitl [HO]; · iexact HO
    iexact HY
  iintro %u ⟨-, HO, HY⟩
  iapply (run_loop c Q _ (fun q u => iprop(ctx m ∗ I5 m c zsS q u)) (fun q u k => run_waitZs m c Q q u k) 16 0 rfl)
  unfold I5
  isplitl [HO HZ]
  · isplitr; · iexact HC
    isplitl [HO]; · iexact HO
    iexact HZ
  iintro %u ⟨-, HO, HZ⟩
  iapply (run_waitX m c Q ssS in_ss 0 (src := srM) (dst := sM) amt_ss.symm)
  isplitr; · iexact HR
  isplitl [HO]; · iexact HO
  isplitr; · iapply (mw_zero c _); iempintro
  isplitl [Hcr]; · rw [amt_ss]; iexact Hcr
  isplitl [Hat]; · iexact Hat
  rw [payload_ss]
  iintro ⟨HO, Hz, Hp⟩
  iapply (run_waitO m c Q 30 32 (by decide))
  isplitl [HO]; · iexact HO
  isplitl [HF]; · iexact HF
  iintro ⟨HO, HF, Hs0⟩
  iapply (run_waitO m c Q 31 32 (by decide))
  isplitl [HO]; · iexact HO
  isplitl [HF]; · iexact HF
  iintro ⟨HO, HF, Hs1⟩
  iapply (run_ret c Q)
  iapply Hk
  isplitl [HO]; · iexact HO
  isplitl [HY]; · iexact HY
  isplitl [HZ]; · iexact HZ
  isplitl [Hz Hp]
  · isplitl [Hz]; · iexact Hz
    iexact Hp
  isplitl [HF]; · iexact HF
  isplitl [Hs0]; · iexact Hs0
  iexact Hs1

end Cert.KernelIdeal.Run

end
-- ==== Proof.Fams.lean ====
/-
Families of resources taken apart and put together: a buffer and its blocks, sixteen as twice
eight, the semaphores of the transfers by their arrays.
-/
module

public import proofs.«01_k».proof.Proof.Tiles

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig Unit (Elt F) ℕ UU ℕ

variable (m : (ℓ : Loc nD τ sig) → Buf (Elt F) ℓ)

/-! ## Index sets -/

theorem fin_add (a b : ℕ) (Φ : Fin (a + b) → sProp 𝕄) :
    bigSep Finset.univ Φ = iprop((bigSep Finset.univ fun i : Fin a => Φ (Fin.castAdd b i)) ∗ bigSep Finset.univ fun i : Fin b => Φ (Fin.natAdd a i)) := by
  rw [bigSep_univ_equiv finSumFinEquiv Φ]
  exact bigSep_univ_sum _
theorem split32 (Φ : Fin 32 → sProp 𝕄) :
    bigSep Finset.univ Φ = iprop((bigSep Finset.univ fun k => Φ (lo k)) ∗ bigSep Finset.univ fun k => Φ (hi k)) := fin_add 16 16 Φ

def lo8 (j : Fin 8) : Fin 16 := ⟨j.val, by have := j.isLt; omega⟩
def hi8 (j : Fin 8) : Fin 16 := ⟨8 + j.val, by have := j.isLt; omega⟩
theorem split16 (Φ : Fin 16 → sProp 𝕄) :
    bigSep Finset.univ Φ = iprop((bigSep Finset.univ fun j => Φ (lo8 j)) ∗ bigSep Finset.univ fun j => Φ (hi8 j)) := fin_add 8 8 Φ

theorem evod_bij : Function.Bijective (Sum.elim ev od : Fin 8 ⊕ Fin 8 → Fin 16) := by
  constructor
  · rintro (a | a) (b | b) h
    · refine congrArg Sum.inl (Fin.ext ?_); have := congrArg Fin.val h; simp only [Sum.elim_inl, ev] at this; omega
    · have := congrArg Fin.val h; simp only [Sum.elim_inl, Sum.elim_inr, ev, od] at this; omega
    · have := congrArg Fin.val h; simp only [Sum.elim_inl, Sum.elim_inr, ev, od] at this; omega
    · refine congrArg Sum.inr (Fin.ext ?_); have := congrArg Fin.val h; simp only [Sum.elim_inr, od] at this; omega
  · intro k
    have hk := k.isLt
    by_cases h : k.val % 2 = 0
    · exact ⟨.inl ⟨k.val / 2, by omega⟩, Fin.ext (by simp only [Sum.elim_inl, ev]; omega)⟩
    · exact ⟨.inr ⟨k.val / 2, by omega⟩, Fin.ext (by simp only [Sum.elim_inr, od]; omega)⟩
theorem pair16 (Φ : Fin 16 → sProp 𝕄) :
    bigSep Finset.univ Φ = bigSep Finset.univ fun j : Fin 8 => iprop(Φ (ev j) ∗ Φ (od j)) := by
  rw [bigSep_univ_equiv (Equiv.ofBijective _ evod_bij) Φ, bigSep_sep']
  exact bigSep_univ_sum _

theorem two (Φ : Fin 2 → sProp 𝕄) : bigSep Finset.univ Φ = iprop(Φ 0 ∗ Φ 1) := by
  rw [bigSep_univ_eq_bigSepL [(0 : Fin 2), 1] (by decide) (by decide), bigSepL_cons_cons, bigSepL_singleton]
  rfl

/-- Families side by side. -/
theorem zip {I : Type} (s : Finset I) (Φ Ψ : I → sProp 𝕄) : iprop(bigSep s Φ ∗ bigSep s Ψ) ⊢ bigSep s fun k => iprop(Φ k ∗ Ψ k) := by
  rw [bigSep_sep']
theorem unzip {I : Type} (s : Finset I) (Φ Ψ : I → sProp 𝕄) : (bigSep s fun k => iprop(Φ k ∗ Ψ k)) ⊢ iprop(bigSep s Φ ∗ bigSep s Ψ) := by
  rw [bigSep_sep']
theorem each {I : Type} (s : Finset I) (Φ Ψ : I → sProp 𝕄) (h : ∀ k, Φ k ⊢ Ψ k) : bigSep s Φ ⊢ bigSep s Ψ :=
  bigSep_mono fun k _ => h k

/-! ## A buffer and its blocks -/

section
variable {T : Type} [Fintype T] [DecidableEq T] {ℓ : Loc nD τ sig} (K : T → Finset (Idx ℓ)) (idx : Idx ℓ → T)

theorem cover_disj (h : ∀ t i, i ∈ K t ↔ idx i = t) : ∀ t ∈ (Finset.univ : Finset T), ∀ t' ∈ (Finset.univ : Finset T), t ≠ t' → Disjoint (K t) (K t') :=
  fun t _ t' _ hn => Finset.disjoint_left.2 fun i h1 h2 => hn (((h t i).1 h1).symm.trans ((h t' i).1 h2))
theorem cover_univ (h : ∀ t i, i ∈ K t ↔ idx i = t) : Finset.univ.biUnion K = Finset.univ :=
  Finset.eq_univ_of_forall fun i => Finset.mem_biUnion.2 ⟨idx i, Finset.mem_univ _, (h _ i).2 rfl⟩

theorem cover (h : ∀ t i, i ∈ K t ↔ idx i = t) (q : PosShare TreeShare) (f : Buf (Elt F) ℓ) :
    (ℓ ↦[Finset.univ]{q} f : sProp 𝕄) = bigSep Finset.univ fun t => ℓ ↦[K t]{q} f := by
  rw [← cover_univ K idx h]; exact pointsTo_biUnion _ _ (cover_disj K idx h)

theorem cover_any (h : ∀ t i, i ∈ K t ↔ idx i = t) (q : PosShare TreeShare) (f₀ : Buf (Elt F) ℓ) :
    (bigSep Finset.univ fun t => iprop(∃ f : Buf (Elt F) ℓ, ℓ ↦[K t]{q} f)) ⊢ (iprop(∃ f : Buf (Elt F) ℓ, ℓ ↦[Finset.univ]{q} f) : sProp 𝕄) := by
  haveI : Nonempty (Buf (Elt F) ℓ) := ⟨f₀⟩
  iintro H
  ihave H2 := (bigSep_exists_pi Finset.univ (fun (t : T) (f : Buf (Elt F) ℓ) => (ℓ ↦[K t]{q} f : sProp 𝕄))) $$ H
  icases H2 with ⟨%fs, H⟩
  ihave H2 := (pointsTo_biUnion_join Finset.univ K fs f₀ (cover_disj K idx h)) $$ H
  icases H2 with ⟨%g, -, H⟩
  rw [cover_univ K idx h]
  iexists g; iexact H

theorem cover_some (h : ∀ t i, i ∈ K t ↔ idx i = t) (q : PosShare TreeShare) (f : Buf (Elt F) ℓ) :
    (ℓ ↦[Finset.univ]{q} f : sProp 𝕄) ⊢ bigSep Finset.univ fun t => iprop(∃ f : Buf (Elt F) ℓ, ℓ ↦[K t]{q} f) := by
  rw [cover K idx h]
  exact each _ _ _ fun t => by iintro H; iexists f; iexact H
end

theorem eB_at (k : Fin 32) (i : S32x1024x512.Idx) : i ∈ (eB k).view.set ↔ (i 0 : Fin 32) = k :=
  (eB_mem k i).trans ⟨fun h => Fin.ext h, fun h => congrArg Fin.val h⟩
theorem ryB_at (k : Fin 16) (i : S16x1024x512.Idx) : i ∈ (ryB k).view.set ↔ (i 0 : Fin 16) = k :=
  (ryB_mem k i).trans ⟨fun h => Fin.ext h, fun h => congrArg Fin.val h⟩
theorem rzB_at (k : Fin 16) (i : S16x1024x512.Idx) : i ∈ (rzB k).view.set ↔ (i 0 : Fin 16) = k :=
  (rzB_mem k i).trans ⟨fun h => Fin.ext h, fun h => congrArg Fin.val h⟩
theorem wSlot_at (k : Fin 2) (i : S2x2048x512.Idx) : i ∈ (wSlot k).view.set ↔ (i 0 : Fin 2) = k :=
  (wSlot_mem k i).trans ⟨fun h => Fin.ext h, fun h => congrArg Fin.val h⟩
theorem stSlot_at (k : Fin 2) (i : S2x1024x1024.Idx) : i ∈ (stSlot k).view.set ↔ (i 0 : Fin 2) = k :=
  (stSlot_mem k i).trans ⟨fun h => Fin.ext h, fun h => congrArg Fin.val h⟩
theorem edSlot_at (k : Fin 2) (i : S2x2x1024x512.Idx) : i ∈ (edSlot k).view.set ↔ (i 0 : Fin 2) = k :=
  (edSlot_mem k i).trans ⟨fun h => Fin.ext h, fun h => congrArg Fin.val h⟩
/-- The tile a place of the output lies in. -/
def tileOf (c : Dev nD) (i : S1024x32768.Idx) : Fin 32 := tcol c ⟨(i 1).val / 1024, by
  have h : (i 1).val < 32768 := (i 1).isLt
  omega⟩
theorem oT_at (c : Dev nD) (n : Fin 32) (i : S1024x32768.Idx) : i ∈ (oT c n).view.set ↔ tileOf c i = n := by
  rw [oT_mem]
  unfold tileOf
  constructor
  · intro h
    rw [← tcol_tcol c n]
    exact congrArg (tcol c) (Fin.ext h)
  · intro h
    have h2 := congrArg (tcol c) h
    rw [tcol_tcol] at h2
    exact congrArg Fin.val h2

theorem e_cover (c : Dev nD) (q : PosShare TreeShare) (f : Buf (Elt F) (eM.view.loc (c : Thread nD τ))) :
    (eM.view.loc (c : Thread nD τ) ↦[Finset.univ]{q} f : sProp 𝕄) = bigSep Finset.univ fun k => pts (eB k) c q f :=
  cover (ℓ := eM.view.loc (c : Thread nD τ)) (fun k => (eB k).view.set) (fun i : S32x1024x512.Idx => (i 0 : Fin 32)) eB_at q f
theorem o_cover (c : Dev nD) (q : PosShare TreeShare) (f : Buf (Elt F) (oM.view.loc (c : Thread nD τ))) :
    (oM.view.loc (c : Thread nD τ) ↦[Finset.univ]{q} f : sProp 𝕄) = bigSep Finset.univ fun k => pts (oT c k) c q f :=
  cover (ℓ := oM.view.loc (c : Thread nD τ)) (fun k => (oT c k).view.set) (tileOf c) (oT_at c) q f

/-! ## The semaphores of the transfers -/

def xf (i : Fin 66) : DmaSem sig := ⟨1 + i.val, by
  have h : i.val < 66 := i.isLt
  show _ < 73; omega⟩
def fam66 (Ψ : DmaSem sig → sProp 𝕄) : sProp 𝕄 :=
  iprop((bigSep Finset.univ fun k => Ψ (ysS k)) ∗ (bigSep Finset.univ fun k => Ψ (yrS k)) ∗ (bigSep Finset.univ fun k => Ψ (zsS k))
    ∗ (bigSep Finset.univ fun k => Ψ (zrS k)) ∗ Ψ ssS ∗ Ψ srS)
theorem fam66_eq (Ψ : DmaSem sig → sProp 𝕄) : (bigSep Finset.univ fun i => Ψ (xf i)) = fam66 Ψ := by
  have e1 := fin_add 16 50 (fun i : Fin 66 => Ψ (xf i))
  have e2 := fin_add 16 34 (fun i : Fin 50 => Ψ (xf (Fin.natAdd 16 i)))
  have e3 := fin_add 16 18 (fun i : Fin 34 => Ψ (xf (Fin.natAdd 16 (Fin.natAdd 16 i))))
  have e4 := fin_add 16 2 (fun i : Fin 18 => Ψ (xf (Fin.natAdd 16 (Fin.natAdd 16 (Fin.natAdd 16 i)))))
  have e5 := two (fun i : Fin 2 => Ψ (xf (Fin.natAdd 16 (Fin.natAdd 16 (Fin.natAdd 16 (Fin.natAdd 16 i))))))
  have a1 : ∀ k : Fin 16, xf (Fin.castAdd 50 k) = ysS k := fun k => Fin.ext (by rw [ysS_val]; rfl)
  have a2 : ∀ k : Fin 16, xf (Fin.natAdd 16 (Fin.castAdd 34 k)) = yrS k := fun k => Fin.ext (by
    rw [yrS_val]; show 1 + (16 + k.val) = _; omega)
  have a3 : ∀ k : Fin 16, xf (Fin.natAdd 16 (Fin.natAdd 16 (Fin.castAdd 18 k))) = zsS k := fun k => Fin.ext (by
    rw [zsS_val]; show 1 + (16 + (16 + k.val)) = _; omega)
  have a4 : ∀ k : Fin 16, xf (Fin.natAdd 16 (Fin.natAdd 16 (Fin.natAdd 16 (Fin.castAdd 2 k)))) = zrS k := fun k => Fin.ext (by
    rw [zrS_val]; show 1 + (16 + (16 + (16 + k.val))) = _; omega)
  have a5 : xf (Fin.natAdd 16 (Fin.natAdd 16 (Fin.natAdd 16 (Fin.natAdd 16 (0 : Fin 2))))) = ssS := by decide
  have a6 : xf (Fin.natAdd 16 (Fin.natAdd 16 (Fin.natAdd 16 (Fin.natAdd 16 (1 : Fin 2))))) = srS := by decide
  simp only [a1, a2, a3, a4, a5, a6] at e1 e2 e3 e4 e5
  unfold fam66
  rw [e1, e2, e3, e4, e5]

end Cert.KernelIdeal.Run

end
-- ==== Proof.Body.lean ====
/-
The whole body: the barrier, the four loops, the exchange of the row sums, the last waits.
-/
module

public import proofs.«01_k».proof.Proof.Fams

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig Unit (Elt F) ℕ UU ℕ

variable (m : (ℓ : Loc nD τ sig) → Buf (Elt F) ℓ)

/-! ## What a device starts with -/

def Bufs (c : Dev nD) : sProp 𝕄 :=
  iprop(WAll m c ∗ (WFree c 0 ∗ WFree c 1) ∗ XIn m c ∗ (bigSep Finset.univ fun k => anyPts (eB k) c) ∗ anyPts sM c
    ∗ (bigSep Finset.univ fun k => anyPts (oT c k) c) ∗ (SFree c 0 ∗ SFree c 1) ∗ (DFree c 0 ∗ DFree c 1))
/-- The tokens of what it sends. -/
def Toks (c : Dev nD) : sProp 𝕄 :=
  iprop((bigSep Finset.univ fun k => dutyTok ER (cell c (ysS k)) 0 false) ∗ (bigSep Finset.univ fun k => dutyTok ER (cell (py c) (yrS k)) 0 false)
    ∗ (bigSep Finset.univ fun k => dutyTok ER (cell c (zsS k)) 0 false) ∗ (bigSep Finset.univ fun k => dutyTok ER (cell (pz c) (zrS k)) 0 false)
    ∗ dutyTok ER (cell c ssS) 0 false ∗ dutyTok ER (cell (py c) srS) 0 false)
/-- What will be sent to it. -/
def Creds (c : Dev nD) : sProp 𝕄 :=
  iprop((bigSep Finset.univ fun k => cred (tallyAt (cell c (yrS k)) () NB)) ∗ (bigSep Finset.univ fun k => cred (tallyAt (cell c (zrS k)) () NB))
    ∗ cred (tallyAt (cell c srS) () NS))
/-- Where it stands at each cell of its own. -/
def Poss (c : Dev nD) : sProp 𝕄 := fam66 fun n => atPos ER (cell c n) 0 ∅ 0
/-- What it ends with. -/
def Done (c : Dev nD) : sProp 𝕄 :=
  iprop(OWE c 0 ∗ (fam66 fun n => semVal (cell c n) 0) ∗ WAll m c ∗ (WFree c 0 ∗ WFree c 1) ∗ XIn m c
    ∗ (eM.view.loc (c : Thread nD τ) ↦[Finset.univ]{fullShare} eBuf m c) ∗ pts sM c fullShare (sBuf m c) ∗ pts srM c fullShare (srBuf m c)
    ∗ (oM.view.loc (c : Thread nD τ) ↦[Finset.univ]{fullShare} outBuf m c) ∗ (SFree c 0 ∗ SFree c 1) ∗ (DFree c 0 ∗ DFree c 1))

/-! ## Between the loops -/

theorem start_y (c : Dev nD) :
    iprop((bigSep Finset.univ fun k => anyPts (eB (lo k)) c) ∗ (bigSep Finset.univ fun k => dutyTok ER (cell c (ysS k)) 0 false)
      ∗ (bigSep Finset.univ fun k => dutyTok ER (cell (py c) (yrS k)) 0 false) ∗ bigSep Finset.univ fun k => anyPts (ryB k) (py c))
    ⊢ bigSep Finset.univ (FY m c 0) := by
  rw [show FY m c 0 = fun k => iprop(anyPts (eB (lo k)) c ∗ dutyTok ER (cell c (ysS k)) 0 false ∗ dutyTok ER (cell (py c) (yrS k)) 0 false
    ∗ anyPts (ryB k) (py c)) from funext fun k => if_pos (Nat.zero_le _), bigSep_sep', bigSep_sep', bigSep_sep']

theorem start_z (c : Dev nD) :
    iprop((bigSep Finset.univ fun k => anyPts (eB (hi k)) c) ∗ ((bigSep Finset.univ fun k => cred (tallyAt (cell c (yrS k)) () NB))
      ∗ (bigSep Finset.univ fun k => atPos ER (cell c (yrS k)) 0 ∅ 0)) ∗ ((bigSep Finset.univ fun k => dutyTok ER (cell c (zsS k)) 0 false)
      ∗ (bigSep Finset.univ fun k => dutyTok ER (cell (pz c) (zrS k)) 0 false)) ∗ bigSep Finset.univ fun k => anyPts (rzB k) (pz c))
    ⊢ bigSep Finset.univ (FZ m c 0) := by
  rw [show FZ m c 0 = fun k => iprop(anyPts (eB (hi k)) c ∗ (cred (tallyAt (cell c (yrS k)) () NB) ∗ atPos ER (cell c (yrS k)) 0 ∅ 0)
    ∗ (dutyTok ER (cell c (zsS k)) 0 false ∗ dutyTok ER (cell (pz c) (zrS k)) 0 false) ∗ anyPts (rzB k) (pz c))
    from funext fun k => if_pos (Nat.zero_le _), bigSep_sep', bigSep_sep', bigSep_sep', bigSep_sep', bigSep_sep']

theorem not16 (k : Fin 16) : ¬ 16 ≤ k.val := by have := k.isLt; omega

theorem mid_y (c : Dev nD) :
    bigSep Finset.univ (FY m c 16) ⊢ iprop((bigSep Finset.univ fun k => pts (eB (lo k)) c fullShare.left (eBuf m c))
      ∗ bigSep Finset.univ fun k => cred (tallyAt (cell c (ysS k)) () NB)) := by
  rw [show FY m c 16 = fun k => iprop(pts (eB (lo k)) c fullShare.left (eBuf m c) ∗ cred (tallyAt (cell c (ysS k)) () NB))
    from funext fun k => if_neg (not16 k), bigSep_sep']

theorem mid_z (c : Dev nD) :
    bigSep Finset.univ (FZ m c 16) ⊢ iprop(((bigSep Finset.univ fun k => pts (eB (hi k)) c fullShare.left (eBuf m c))
        ∗ bigSep Finset.univ fun k => pts (eB (hi k)) c fullShare.right (eBuf m c))
      ∗ (bigSep Finset.univ fun k => pts (ryB k) c fullShare.left (ryBuf m c))
      ∗ (bigSep Finset.univ fun k => cred (tallyAt (cell c (zsS k)) () NB)) ∗ bigSep Finset.univ fun k => semVal (cell c (yrS k)) 0) := by
  have e := each Finset.univ (fun k => (pts (eB (hi k)) c fullShare (eBuf m c) : sProp 𝕄)) _ fun k => (pts_halves (eB (hi k)) c (eBuf m c)).1
  rw [show FZ m c 16 = fun k => iprop(pts (eB (hi k)) c fullShare (eBuf m c) ∗ pts (ryB k) c fullShare.left (ryBuf m c)
    ∗ cred (tallyAt (cell c (zsS k)) () NB) ∗ semVal (cell c (yrS k)) 0) from funext fun k => if_neg (not16 k), bigSep_sep', bigSep_sep', bigSep_sep']
  rw [bigSep_sep'] at e
  exact sep_mono_left e

theorem mid_d (c : Dev nD) :
    iprop((bigSep Finset.univ fun k => pts (ryB k) c fullShare.left (ryBuf m c)) ∗ bigSep Finset.univ fun k => Zwait (F := F) c k)
    ⊢ bigSep Finset.univ (FD m c 0 0) := by
  have e : FD m c 0 0 = Dpre m c := funext fun k => if_pos (Nat.zero_le _)
  have el : ∀ j, Dpre m c (lo8 j) = pts (dbl ryM j) c fullShare.left (ryBuf m c) := fun j => dif_pos j.isLt
  have eh : ∀ j, Dpre m c (hi8 j) = iprop(Zwait c (ev j) ∗ Zwait c (od j)) := fun j => by
    have hu : up8 (hi8 j) = j := Fin.ext (by show 8 + j.val - 8 = j.val; omega)
    unfold Dpre
    rw [dif_neg (show ¬ (hi8 j).val < 8 by show ¬ 8 + j.val < 8; omega), hu]
  rw [e, split16 (Dpre m c), bigSep_congr (Ψ := fun j => (pts (dbl ryM j) c fullShare.left (ryBuf m c) : sProp 𝕄)) fun j _ => el j,
    bigSep_congr (Ψ := fun j => iprop(Zwait c (ev j) ∗ Zwait c (od j))) fun j _ => eh j, ← pair16 (Zwait (F := F) c),
    pair16 (fun k => (pts (ryB k) c fullShare.left (ryBuf m c) : sProp 𝕄))]
  exact sep_mono_left (each _ _ _ fun j => pair_y c fullShare.left j (ryBuf m c))

/-! ## At the end -/

theorem done_d (c : Dev nD) : bigSep Finset.univ (FD m c 16 16) ⊢ bigSep Finset.univ fun k => semVal (cell c (zrS k)) 0 := by
  have e : ∀ k, FD m c 16 16 k ⊢ Dsem c k := fun k => by
    rw [show FD m c 16 16 k = _ from (if_neg (not16 k)).trans (if_neg (not16 k))]
    exact sep_elim_right
  have eh : ∀ j, Dsem (F := F) c (hi8 j) = iprop(semVal (cell c (zrS (ev j))) 0 ∗ semVal (cell c (zrS (od j))) 0) := fun j => by
    have hu : up8 (hi8 j) = j := Fin.ext (by show 8 + j.val - 8 = j.val; omega)
    unfold Dsem
    rw [if_neg (show ¬ (hi8 j).val < 8 by show ¬ 8 + j.val < 8; omega), hu]
  refine (each _ _ _ e).trans ?_
  rw [split16 (Dsem (F := F) c), bigSep_congr (Ψ := fun j => iprop(semVal (cell c (zrS (ev j))) 0 ∗ semVal (cell c (zrS (od j))) 0)) fun j _ => eh j,
    ← pair16 (fun k => (semVal (cell c (zrS k)) 0 : sProp 𝕄))]
  exact sep_elim_right

theorem FW_end (c : Dev nD) (s : Fin 16 → DmaSem sig) :
    bigSep Finset.univ (FW m c s 16) ⊢ iprop((bigSep Finset.univ fun k => semVal (cell c (s k)) 0)
      ∗ bigSep Finset.univ fun k => (Rd m).payload (cell c (s k)) 0 false) := by
  rw [show FW m c s 16 = fun k => iprop(semVal (cell c (s k)) 0 ∗ (Rd m).payload (cell c (s k)) 0 false) from funext fun k => if_neg (not16 k),
    bigSep_sep']
theorem FW_end_y (c : Dev nD) :
    bigSep Finset.univ (FW m c ysS 16) ⊢ iprop((bigSep Finset.univ fun k => semVal (cell c (ysS k)) 0)
      ∗ bigSep Finset.univ fun k => pts (eB (lo k)) c fullShare.right (eBuf m c)) := by
  rw [← bigSep_congr (Φ := fun k => (Rd m).payload (cell c (ysS k)) 0 false) fun k _ => payload_ys m c k false]
  exact FW_end m c ysS
theorem FW_start (c : Dev nD) (s : Fin 16 → DmaSem sig) :
    iprop((bigSep Finset.univ fun k => cred (tallyAt (cell c (s k)) () NB)) ∗ bigSep Finset.univ fun k => atPos ER (cell c (s k)) 0 ∅ 0)
    ⊢ bigSep Finset.univ (FW m c s 0) := by
  rw [show FW m c s 0 = fun k => iprop(cred (tallyAt (cell c (s k)) () NB) ∗ atPos ER (cell c (s k)) 0 ∅ 0) from funext fun k => if_pos (Nat.zero_le _),
    bigSep_sep']

theorem e_left (c : Dev nD) :
    iprop((bigSep Finset.univ fun k => pts (eB (lo k)) c fullShare.left (eBuf m c)) ∗ bigSep Finset.univ fun k => pts (eB (hi k)) c fullShare.left (eBuf m c))
    ⊢ EL m c := by
  unfold EL
  rw [e_cover c fullShare.left (eBuf m c), split32 (fun k => (pts (eB k) c fullShare.left (eBuf m c) : sProp 𝕄))]
theorem done_e (c : Dev nD) :
    iprop(EL m c ∗ (bigSep Finset.univ fun k => pts (eB (lo k)) c fullShare.right (eBuf m c)) ∗ bigSep Finset.univ fun k => pts (eB (hi k)) c fullShare.right (eBuf m c))
    ⊢ (eM.view.loc (c : Thread nD τ) ↦[Finset.univ]{fullShare} eBuf m c) := by
  unfold EL
  rw [← split32 (fun k => (pts (eB k) c fullShare.right (eBuf m c) : sProp 𝕄)), ← e_cover c fullShare.right (eBuf m c)]
  exact (pointsTo_share (PosShare.mem_left_op_right fullShare)).2
theorem done_o (c : Dev nD) :
    bigSep Finset.univ (FO m c 32 32) ⊢ (oM.view.loc (c : Thread nD τ) ↦[Finset.univ]{fullShare} outBuf m c) := by
  rw [o_cover c fullShare (outBuf m c), show FO m c 32 32 = fun k => pts (oT c k) c fullShare (outBuf m c) from
    funext fun k => (if_neg (by have := k.isLt; omega)).trans (if_neg (by have := k.isLt; omega))]
theorem start_o (c : Dev nD) :
    iprop((bigSep Finset.univ fun k => anyPts (oT c k) c) ∗ SFree c 0 ∗ SFree c 1) ⊢ OS m c 0 := by
  unfold OS SFam
  rw [show FO m c (0 - 2) 0 = fun k => anyPts (oT c k) c from funext fun k => if_pos (Nat.zero_le _), if_pos (by decide), if_pos (by decide)]

/-! ## The run -/

/-- A loop whose steps all use what stays true of the run. -/
theorem run_loop_ctx {N : ℕ} {σ : Type} (c : Dev nD) (Q : PUnit → sProp 𝕄) (step : Fin N → σ → (σ → P F) → P F) (I : ℕ → σ → sProp 𝕄)
    (h : ∀ (i : Fin N) (s : σ) (k : σ → P F), iprop(ctx m ∗ I i.val s ∗ (∀ s', I (i.val + 1) s' -∗ run c (k s') Q)) ⊢ run c (step i s k) Q)
    (n i : ℕ) (hi : i + n = N) (s : σ) (k : σ → P F) :
    iprop(ctx m ∗ I i s ∗ (∀ s', I N s' -∗ run c (k s') Q)) ⊢ run c (loop step n i hi s k) Q := by
  iintro ⟨#HC, HI, Hk⟩
  iapply (run_loop c Q step (fun i s => iprop(ctx m ∗ I i s)) (fun i s k => by
    iintro ⟨⟨#HC, HI⟩, Hk⟩
    iapply (h i s k)
    isplitr; · iexact HC
    isplitl [HI]; · iexact HI
    iintro %s' HI
    iapply Hk
    isplitr; · iexact HC
    iexact HI) n i hi s k)
  isplitl [HI]
  · isplitr; · iexact HC
    iexact HI
  iintro %s' ⟨-, HI⟩
  iapply Hk $$ HI

theorem run_afterBarrier (c : Dev nD) (Q : PUnit → sProp 𝕄) :
    iprop(ctx m ∗ OWE c (OW c 0 0) ∗ Bufs m c ∗ Toks c ∗ Creds c ∗ Poss c ∗ barY c ∗ barZ c ∗ (Done m c -∗ Q ⟨⟩))
    ⊢ run c (afterBarrier c) Q := by
  have hFD : bigSep Finset.univ (FD m c 0 0) ⊢ iprop(Dpre m c 0 ∗ ((DFly m c 0 ∗ Dsem c 0) -∗ bigSep Finset.univ (FD m c 0 (0 + 1)))) :=
    FD_start m c 0 0 le_rfl
  unfold Bufs Toks Creds Poss fam66 barY barZ afterBarrier
  rw [split32 (fun k => (anyPts (F := F) (eB k) c))]
  iintro ⟨#HC, HO, ⟨HW, ⟨Hw0, Hw1⟩, HX, ⟨Hel, Heh⟩, Hs, Hout, Hst, ⟨HD0, HD1⟩⟩, ⟨tys, tyr, tzs, tzr, tss, tsr⟩, ⟨cyr, czr, csr⟩,
    ⟨pys, pyr, pzs, pzr, pss, psr⟩, ⟨bry, bsr⟩, brz, Hk⟩
  ihave HFY := (start_y m c) $$ [Hel tys tyr bry]
  · isplitl [Hel]; · iexact Hel
    isplitl [tys]; · iexact tys
    isplitl [tyr]; · iexact tyr
    iexact bry
  ihave HFZ := (start_z m c) $$ [Heh cyr pyr tzs tzr brz]
  · isplitl [Heh]; · iexact Heh
    isplitl [cyr pyr]
    · isplitl [cyr]; · iexact cyr
      iexact pyr
    isplitl [tzs tzr]
    · isplitl [tzs]; · iexact tzs
      iexact tzr
    iexact brz
  ihave HOS := (start_o m c) $$ [Hout Hst]
  · isplitl [Hout]; · iexact Hout
    iexact Hst
  ihave HZ := (zip Finset.univ (fun k => (cred (tallyAt (cell c (zrS k)) () NB) : sProp 𝕄)) (fun k => atPos ER (cell c (zrS k)) 0 ∅ 0)) $$ [czr pzr]
  · isplitl [czr]; · iexact czr
    iexact pzr
  iapply (run_startW m c Q 0)
  isplitl [HW]; · iexact HW
  isplitl [Hw0]; · iexact Hw0
  iintro HWf
  iapply (run_loop_ctx m c Q _ (I1 m c) (run_step1 m c Q) 16 0 rfl)
  isplitr; · iexact HC
  isplitl [HWf Hw1 HX HO HFY]
  · unfold I1
    isplitr; · ipureintro; rfl
    isplitl [HWf Hw1]
    · unfold IW
      rw [dif_pos (show 0 < 32 by decide)]
      isplitl [HWf]; · iexact HWf
      iexact Hw1
    isplitl [HX]; · iexact HX
    isplitl [HO]; · iexact HO
    iexact HFY
  iintro %a HI
  unfold I1
  icases HI with ⟨%ha, HIW, HX, HO, HFY⟩
  iapply (run_loop_ctx m c Q _ (I2 m c) (run_step2 m c Q) 16 0 rfl)
  isplitr; · iexact HC
  isplitl [HIW HX HO HFZ]
  · unfold I2
    isplitr; · ipureintro; exact ha
    isplitl [HIW]; · iexact HIW
    isplitl [HX]; · iexact HX
    isplitl [HO]; · iexact HO
    iexact HFZ
  iintro %a' HI
  unfold I2
  icases HI with ⟨%ha', HIW, HX, HO, HFZ⟩
  obtain rfl : a' = accV m c 32 := ha'
  iapply (run_sums m c Q)
  isplitr; · iexact HC
  isplitl [HO]; · iexact HO
  isplitl [tss tsr]
  · isplitl [tss]; · iexact tss
    iexact tsr
  isplitl [Hs]; · iexact Hs
  isplitl [bsr]; · iexact bsr
  isplitl [csr psr]
  · isplitl [csr]; · iexact csr
    iexact psr
  iintro ⟨HO, css, Hsr, vsr⟩
  ihave HY2 := (mid_y m c) $$ HFY
  icases HY2 with ⟨Hel, cys⟩
  ihave HZ2 := (mid_z m c) $$ HFZ
  icases HZ2 with ⟨⟨Heh, Heh'⟩, Hry, czs, vyr⟩
  ihave HE := (e_left m c) $$ [Hel Heh]
  · isplitl [Hel]; · iexact Hel
    iexact Heh
  ihave HFD := (mid_d m c) $$ [Hry HZ]
  · isplitl [Hry]; · iexact Hry
    iexact HZ
  iapply (run_loop_ctx m c Q _ (I3 m c) (fun n u k => by
    iintro ⟨-, HI, Hk⟩
    iapply (run_step3 m c Q n u k)
    isplitl [HI]; · iexact HI
    iexact Hk) 16 0 rfl)
  isplitr; · iexact HC
  isplitl [HO HOS HE]
  · unfold I3
    isplitl [HO]; · iexact HO
    isplitl [HOS]; · iexact HOS
    iexact HE
  iintro %u HI
  unfold I3
  icases HI with ⟨HO, HOS, HE⟩
  ihave HFD2 := hFD $$ HFD
  icases HFD2 with ⟨Hp, HFD⟩
  iapply (run_startD m c Q 0)
  isplitr; · iexact HC
  isplitl [HO]; · iexact HO
  isplitl [Hp]; · iexact Hp
  isplitl [HD0]; · iexact HD0
  iintro ⟨HO, HL⟩
  iapply (run_loop_ctx m c Q _ (I4 m c) (run_step4 m c Q) 16 0 rfl)
  isplitr; · iexact HC
  isplitl [HO HOS HFD HL HD1]
  · unfold I4 ID
    isplitl [HO]; · iexact HO
    isplitl [HOS]; · iexact HOS
    rw [if_pos (show 0 < 16 by decide)]
    isplitl [HFD HL]; · iapply HFD; iexact HL
    isplitr; · iempintro
    iexact HD1
  iintro %u' HI
  unfold I4 ID OS
  rw [if_neg (show ¬ 16 < 16 by decide), show min (16 + 1) 16 = 16 from rfl]
  icases HI with ⟨HO, ⟨HFO, -⟩, ⟨HFD, HD0, HD1⟩⟩
  ihave vzr := (done_d m c) $$ HFD
  ihave HFW1 := (FW_start m c ysS) $$ [cys pys]
  · isplitl [cys]; · iexact cys
    iexact pys
  ihave HFW2 := (FW_start m c zsS) $$ [czs pzs]
  · isplitl [czs]; · iexact czs
    iexact pzs
  iapply (run_finish m c Q)
  isplitr; · iexact HC
  isplitl [HO]; · iexact HO
  isplitl [HFW1]; · iexact HFW1
  isplitl [HFW2]; · iexact HFW2
  isplitl [css pss]
  · isplitl [css]; · iexact css
    iexact pss
  isplitl [HFO]; · iexact HFO
  iintro ⟨HO, HFW1, HFW2, ⟨vss, Hs⟩, HFO, Hst⟩
  ihave HFW1' := (FW_end_y m c) $$ HFW1
  icases HFW1' with ⟨vys, Hel⟩
  ihave HFW2' := (FW_end m c zsS) $$ HFW2
  icases HFW2' with ⟨vzs, -⟩
  ihave HE2 := (done_e m c) $$ [HE Hel Heh']
  · isplitl [HE]; · iexact HE
    isplitl [Hel]; · iexact Hel
    iexact Heh'
  ihave HO2 := (done_o m c) $$ HFO
  iapply Hk
  unfold Done fam66 IW
  rw [dif_neg (show ¬ 16 + 16 < 32 by decide)]
  icases HIW with ⟨⟨HW, Hw0⟩, Hw1⟩
  isplitl [HO]; · iexact HO
  isplitl [vys vyr vzs vzr vss vsr]
  · isplitl [vys]; · iexact vys
    isplitl [vyr]; · iexact vyr
    isplitl [vzs]; · iexact vzs
    isplitl [vzr]; · iexact vzr
    isplitl [vss]; · iexact vss
    iexact vsr
  isplitl [HW]; · iexact HW
  isplitl [Hw0 Hw1]
  · isplitl [Hw0]; · iexact Hw0
    iexact Hw1
  isplitl [HX]; · iexact HX
  isplitl [HE2]; · iexact HE2
  isplitl [Hs]; · iexact Hs
  isplitl [Hsr]; · iexact Hsr
  isplitl [HO2]; · iexact HO2
  isplitl [Hst]; · iexact Hst
  isplitl [HD0]; · iexact HD0
  iexact HD1

/-- What the body starts with: the ledger's part, and the buffers, its own places to be received in first. -/
def Start (c : Dev nD) : sProp 𝕄 :=
  iprop(ctx m ∗ OWE c (O₀ c) ∗ (atPos ER (barC c) 0 ∅ 0 ∗ cred (tallyAt (barC c) () 2))
    ∗ (dutyTok ER (barC (py c)) 0 true ∗ dutyTok ER (barC (pz c)) 0 false)
    ∗ ((bigSep Finset.univ fun k => anyPts (ryB k) c) ∗ anyPts srM c) ∗ (bigSep Finset.univ fun k => anyPts (rzB k) c)
    ∗ Bufs m c ∗ Toks c ∗ Creds c ∗ Poss c)

theorem barY_py (c : Dev nD) : iprop((bigSep Finset.univ fun k => anyPts (ryB k) c) ∗ anyPts srM c) ⊢ barY (F := F) (py c) := by
  unfold barY; rw [py_py]
theorem barZ_pz (c : Dev nD) : (bigSep Finset.univ fun k => anyPts (rzB k) c) ⊢ barZ (F := F) (pz c) := by
  unfold barZ; rw [pz_pz]

theorem run_body (c : Dev nD) (Q : PUnit → sProp 𝕄) :
    iprop(Start m c ∗ ((semVal (barC c) 0 ∗ Done m c) -∗ Q ⟨⟩)) ⊢ run c body Q := by
  have hC : ctx m ⊢ iprop(recs m ∗ levAts L lv) := by unfold ctx; exact BIBase.Entails.rfl
  have hb : ∀ c, recs m ⊢ iprop((∃ κ : ℕ, cellInv ER (Rd m) κ (barC c)) ∗ reached ER (barC c) 0) := fun c => recs_bar m c
  unfold Start body run OWE
  rw [wp_deviceId]
  iintro ⟨⟨#HC, ⟨%W, HO⟩, ⟨Hat, Hcr⟩, ⟨Ht1, Ht2⟩, Hry, Hrz, HB, HT, HCr, HP⟩, Hk⟩
  ihave #HC2 := hC $$ HC
  icases HC2 with ⟨#HR, #Hlev⟩
  ihave #Hpy := (hb (py c)) $$ HR
  icases Hpy with ⟨⟨%κ₁, #Hi1⟩, #Hr1⟩
  ihave #Hpz := (hb (pz c)) $$ HR
  icases Hpz with ⟨⟨%κ₂, #Hi2⟩, #Hr2⟩
  ihave #Hme := (hb c) $$ HR
  icases Hme with ⟨⟨%κ, #Hi⟩, #Hr⟩
  ihave Hpay1 := (barY_py (F := F) c) $$ Hry
  ihave Hpay2 := (barZ_pz (F := F) c) $$ Hrz
  rw [show ((⟨k0_dev1 c, k0_dev1_lt c⟩ : Dev nD)) = py c from dev1_eq c, show ((⟨k0_dev2 c, k0_dev2_lt c⟩ : Dev nD)) = pz c from dev2_eq c]
  iapply (Rounds.wp_signal 𝒱₀ ER (Rd m) (c : Thread nD τ) none (dst := ((py c : Dev nD) : Thread nD τ)) (κ := κ₁) (d := true)
    (by rw [duties_bar]; exact Finset.mem_univ _) ((amount_bar m (py c) true).trans (by decide)) () (O₁ c) rfl) $$ [HO Ht1 Hpay1]
  · isplitr; · iexact Hi1
    isplitl [HO]; · iexact HO
    isplitl [Ht1]; · iexact Ht1
    isplitl [Hpay1]; · rw [payload_true]; iexact Hpay1
    iexact Hr1
  iintro HO
  iapply (Rounds.wp_signal 𝒱₀ ER (Rd m) (c : Thread nD τ) none (dst := ((pz c : Dev nD) : Thread nD τ)) (κ := κ₂) (d := false)
    (by rw [duties_bar]; exact Finset.mem_univ _) ((amount_bar m (pz c) false).trans (by decide)) () (OW c 0 0) rfl) $$ [HO Ht2 Hpay2]
  · isplitr; · iexact Hi2
    isplitl [HO]; · iexact HO
    isplitl [Ht2]; · iexact Ht2
    isplitl [Hpay2]; · rw [payload_false]; iexact Hpay2
    iexact Hr2
  iintro HO
  iapply (Rounds.wp_wait_rest_token 𝒱₀ ER (Rd m) (c : Thread nD τ) none (κ := κ)
    (wpE_semWait_eq 𝒱₀ (c : Thread nD τ) none Set.univ) (Set.mem_univ _) () (O := OW c 0 0) (W := _) (R := 0) (m := 0) (T := ∅)
    (by rw [expect_bar])) $$ [HO Hat Hcr]
  · isplitr; · iexact Hi
    isplitl [Hcr]; · iexact Hcr
    isplitl [HO]; · iexact HO
    isplitr; · iapply (mw_bar c); iexact Hlev
    iexact Hat
  iintro ⟨HO, Hat, -, Hpay⟩
  ihave Hpay2 := (Entails.of_eq (rest_bar m c)) $$ Hpay
  icases Hpay2 with ⟨Hz, Hy⟩
  imod (Rounds.cell_close ER (Rd m) (Set.mem_univ κ) (fun h => h) (R := 0 + 1) (duties_later m (barC c))) $$ [Hat] with Hv
  · isplitr; · iexact Hi
    iexact Hat
  iapply (run_afterBarrier m c Q)
  isplitr; · iexact HC
  isplitl [HO]; · unfold OWE; iexists _; iexact HO
  isplitl [HB]; · iexact HB
  isplitl [HT]; · iexact HT
  isplitl [HCr]; · iexact HCr
  isplitl [HP]; · iexact HP
  isplitl [Hy]; · iexact Hy
  isplitl [Hz]; · iexact Hz
  iintro HD
  iapply Hk
  isplitl [Hv]; · iexact Hv
  iexact HD

end Cert.KernelIdeal.Run

end
-- ==== Proof.Alloc.lean ====
/-
The launch of the ledger of signals: every cell's round set up, the tokens dealt to the devices that use them.
-/
module

public import proofs.«01_k».proof.Proof.Body
public import Idealize.ShloMosaic.Lib.Pipeline.Launch
public import Idealize.ShloMosaic.Lib.Pipeline.Kit

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig Unit (Elt F) ℕ UU ℕ

variable (m : (ℓ : Loc nD τ sig) → Buf (Elt F) ℓ)

/-! ## The cells and the tokens -/

theorem ksem_val (n : Fin 67) : (match ksem n with | .reg _ => 0 | .dma d => d.val) = n.val := by
  unfold ksem
  by_cases h : n.val = 0
  · rw [if_pos h, h]
  · rw [if_neg h]
theorem kcell_injective : Function.Injective (kcell : Dev nD × Fin 67 → GSem nD τ sig) := by
  rintro ⟨c, k⟩ ⟨c', k'⟩ h
  have h1 : c = c' := congrArg (fun g : GSem nD τ sig => g.1.1) h
  have h2 : ksem k = ksem k' := congrArg Prod.snd h
  rw [h1, Fin.ext (show k.val = k'.val by rw [← ksem_val k, h2, ksem_val])]
def cells : Finset (GSem nD τ sig) := Finset.univ.map ⟨kcell, kcell_injective⟩

/-- A device's tokens: one of each of its cells, and the barrier's second one. -/
def tokOf (p : Dev nD × (Fin 67 ⊕ Unit)) : GSem nD τ sig × ℕ × Bool :=
  match p.2 with
  | .inl n => (kcell (p.1, n), 0, false)
  | .inr _ => (barC p.1, 0, true)
theorem tokOf_injective : Function.Injective tokOf := by
  rintro ⟨c, a⟩ ⟨c', a'⟩ h
  cases a with
  | inl n => cases a' with
    | inl n' =>
      have := kcell_injective (congrArg Prod.fst h)
      have h1 : c = c' := (Prod.ext_iff.mp this).1
      have h2 : n = n' := (Prod.ext_iff.mp this).2
      rw [h1, h2]
    | inr u => exact absurd (congrArg (fun x : GSem nD τ sig × ℕ × Bool => x.2.2) h) Bool.false_ne_true
  | inr u => cases a' with
    | inl n' => exact absurd (congrArg (fun x : GSem nD τ sig × ℕ × Bool => x.2.2) h).symm Bool.false_ne_true
    | inr u' =>
      have h1 : c = c' := congrArg (fun x : GSem nD τ sig × ℕ × Bool => x.1.1.1) h
      rw [h1]
def tokens : Finset (GSem nD τ sig × ℕ × Bool) := Finset.univ.map ⟨tokOf, tokOf_injective⟩

def u₀ : UU :=
  (initOf (Pipeline.cells cfgs Gen.cellOf_inj) (Pipeline.launchToks cfgs Gen.cellOf_inj), (initOf cells tokens, 1))

theorem own_split (a : UB) : (BI.own (embR ((a, 1) : UB × Counters)) : sProp 𝕄) ⊢ BI.own (ER a) := BIBase.Entails.rfl

/-- Over the cells of one device: the barrier's and those of the transfers. -/
theorem fam67 (Φ : GSem nD τ sig → sProp 𝕄) (c : Dev nD) :
    (bigSep Finset.univ fun k : Fin 67 => Φ (kcell (c, k))) = iprop(Φ (barC c) ∗ fam66 fun n => Φ (cell c n)) := by
  have e := fin_add 1 66 (fun k : Fin 67 => Φ (kcell (c, k)))
  have e1 : (bigSep Finset.univ fun i : Fin 1 => Φ (kcell (c, Fin.castAdd 66 i))) = Φ (barC c) :=
    bigSep_univ_eq_bigSepL [(0 : Fin 1)] (by decide) (by decide) _
  have e2 : (bigSep Finset.univ fun i : Fin 66 => Φ (kcell (c, Fin.natAdd 1 i))) = fam66 fun n => Φ (cell c n) := by
    rw [← fam66_eq (fun n => Φ (cell c n))]
    refine bigSep_congr fun i _ => ?_
    show Φ (_, ksem _) = _
    unfold ksem
    rw [if_neg (show ¬ (Fin.natAdd 1 i : Fin 67).val = 0 by show ¬ 1 + i.val = 0; omega)]
    rfl
  rw [e1, e2] at e
  exact e

def toks (c : Dev nD) : sProp 𝕄 :=
  iprop((dutyTok ER (barC c) 0 false ∗ fam66 fun n => dutyTok ER (cell c n) 0 false) ∗ dutyTok ER (barC c) 0 true)

/-- What the launch deals each device. -/
def G (c : Dev nD) : sProp 𝕄 :=
  iprop((bigSep Finset.univ fun k : Fin 67 => roundState ER (Rd m) (kcell (c, k)) 0)
    ∗ (bigSep Finset.univ fun k : Fin 67 => reached ER (kcell (c, k)) 0)
    ∗ (bigSep Finset.univ fun k : Fin 67 => atPos ER (kcell (c, k)) 0 ∅ 0) ∗ toks c)

theorem fund : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : Fin 67 => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    refine bigSep_congr fun c _ => ?_
    rw [bigSep_univ_sum]
    unfold toks
    rw [← fam67 (fun g => dutyTok ER g 0 false) c]
    have e : (bigSep Finset.univ fun i : Unit => (dutyTok ER (tokOf (c, .inr i)).1 (tokOf (c, .inr i)).2.1 (tokOf (c, .inr i)).2.2 : sProp 𝕄))
      = dutyTok ER (barC c) 0 true := bigSep_univ_eq_bigSepL [()] (by decide) (by decide) _
    exact congrArg (fun X => iprop((bigSep Finset.univ fun k : Fin 67 => dutyTok ER (kcell (c, k)) 0 false) ∗ X)) e
  iintro HX
  imod (Rounds.fund ER (Rd m) cells tokens) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-! ## The semaphores -/

/-- The kernel's own semaphores: those of the transfers between devices, then those of its own copies. -/
abbrev osem (i : Fin 72) : SemLoc sig := .dma ⟨1 + i.val, by
  have h : i.val < 72 := i.isLt
  show _ < 73; omega⟩

theorem ownSemFacts : Pipeline.OwnSemFacts cfg0.spec osem := by decide

/-- Those of its own copies. -/
def six (Φ : SemLoc sig → sProp 𝕄) : sProp 𝕄 :=
  iprop(Φ (.dma (wS 0)) ∗ Φ (.dma (wS 1)) ∗ Φ (.dma (stS 0)) ∗ Φ (.dma (stS 1)) ∗ Φ (.dma (edS 0)) ∗ Φ (.dma (edS 1)))
def Six (c : Dev nD) : sProp 𝕄 := six fun sm => semVal ((c : Thread nD τ), sm) 0

theorem fam72 (Φ : SemLoc sig → sProp 𝕄) : (bigSep Finset.univ fun i : Fin 72 => Φ (osem i)) = iprop((fam66 fun n => Φ (.dma n)) ∗ six Φ) := by
  have e := fin_add 66 6 (fun i : Fin 72 => Φ (osem i))
  have e1 : (bigSep Finset.univ fun i : Fin 66 => Φ (osem (Fin.castAdd 6 i))) = fam66 fun n => Φ (.dma n) :=
    fam66_eq fun n => Φ (.dma n)
  have e2 : (bigSep Finset.univ fun i : Fin 6 => Φ (osem (Fin.natAdd 66 i))) = six Φ := by
    rw [bigSep_univ_eq_bigSepL [(0 : Fin 6), 1, 2, 3, 4, 5] (by decide) (by decide)]
    rfl
  rw [e1, e2] at e
  exact e

theorem ownSems0_eq (c : Dev nD) : (Pipeline.ownSems0 (Ix := Unit) (Name := ℕ) (U := UU) (Lvl := ℕ) (Val := Elt F) (τ := τ) osem c : sProp 𝕄)
    = iprop((fam66 fun n => semVal (cell c n) 0) ∗ Six c) :=
  fam72 fun sm => semVal ((c : Thread nD τ), sm) 0
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 67 => semVal (kcell (c, k)) 0) ∗ Six c) := by
  rw [ownSems0_eq, unscopedSems0_eq, fam67 (fun g => semVal g 0) c]
  iintro ⟨⟨HF, H6⟩, HB⟩
  isplitl [HB HF]
  · isplitl [HB] <;> iassumption
  iexact H6

/-! ## Every cell put under way -/

theorem cell_alloc (c : Dev nD) :
    iprop((bigSep Finset.univ fun k : Fin 67 => semVal (kcell (c, k)) 0) ∗ bigSep Finset.univ fun k : Fin 67 => roundState ER (Rd m) (kcell (c, k)) 0)
      ⊢ (|={Set.univ}=> bigSep Finset.univ fun k => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

/-- What one device makes of its part. -/
def Mid (c : Dev nD) : sProp 𝕄 :=
  iprop((bigSep Finset.univ fun k : Fin 67 => rec1 m (kcell (c, k))) ∗ (atPos ER (barC c) 0 ∅ 0 ∗ Poss c) ∗ toks c ∗ Six c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> Mid m c := by
  unfold G
  iintro ⟨Hos, Hus, Hst, Hr, Hat, Htok⟩
  ihave Hv := (sems0_eq (F := F) c) $$ [Hos Hus]
  · isplitl [Hos] <;> iassumption
  icases Hv with ⟨Hv, H6⟩
  imod (cell_alloc m c) $$ [Hv Hst] with Hinv
  · isplitl [Hv] <;> iassumption
  ihave Hat' := (Entails.of_eq (fam67 (F := F) (fun g => atPos ER g 0 ∅ 0) c)) $$ Hat
  ihave Hrec := (zip (F := F) Finset.univ (fun k => iprop(∃ κ : ℕ, cellInv ER (Rd m) κ (kcell (c, k)))) (fun k => reached ER (kcell (c, k)) 0)) $$ [Hinv Hr]
  · isplitl [Hinv] <;> iassumption
  imodintro
  unfold Mid Poss rec1
  isplitl [Hrec]; · iexact Hrec
  isplitl [Hat']; · iexact Hat'
  isplitl [Htok]; · iexact Htok
  iexact H6

/-! ## The tokens dealt around -/

def pyE : Dev nD ≃ Dev nD := ⟨py, py, py_py, py_py⟩
def pzE : Dev nD ≃ Dev nD := ⟨pz, pz, pz_pz, pz_pz⟩

/-- The tokens a device uses. -/
def PayToks (c : Dev nD) : sProp 𝕄 :=
  iprop((dutyTok ER (barC (py c)) 0 true ∗ dutyTok ER (barC (pz c)) 0 false) ∗ Toks c)

theorem toks_around : (bigSep Finset.univ fun c : Dev nD => (toks c : sProp 𝕄)) ⊢ bigSep Finset.univ fun c : Dev nD => PayToks c := by
  unfold toks PayToks Toks fam66
  simp only [bigSep_sep']
  rw [bigSep_univ_equiv pyE (fun c : Dev nD => (dutyTok ER (barC c) 0 true : sProp 𝕄)),
    bigSep_univ_equiv pzE (fun c : Dev nD => (dutyTok ER (barC c) 0 false : sProp 𝕄)),
    bigSep_univ_equiv pyE (fun c : Dev nD => (bigSep Finset.univ fun k => dutyTok ER (cell c (yrS k)) 0 false : sProp 𝕄)),
    bigSep_univ_equiv pzE (fun c : Dev nD => (bigSep Finset.univ fun k => dutyTok ER (cell c (zrS k)) 0 false : sProp 𝕄)),
    bigSep_univ_equiv pyE (fun c : Dev nD => (dutyTok ER (cell c srS) 0 false : sProp 𝕄))]
  iintro ⟨⟨Hbf, H1, H2, H3, H4, H5, H6⟩, Hbt⟩
  isplitl [Hbf Hbt]
  · isplitl [Hbt]; · iexact Hbt
    iexact Hbf
  isplitl [H1]; · iexact H1
  isplitl [H2]; · iexact H2
  isplitl [H3]; · iexact H3
  isplitl [H4]; · iexact H4
  isplitl [H5]; · iexact H5
  iexact H6

/-- What each device has before the run. -/
def G' (c : Dev nD) : sProp 𝕄 :=
  iprop(recs m ∗ (atPos ER (barC c) 0 ∅ 0 ∗ Poss c) ∗ PayToks c ∗ Six c)

theorem share_out {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (zip S _ _)

theorem regroup : bigSep Finset.univ (Mid m) ⊢ bigSep Finset.univ (G' m) := by
  have e : bigSep Finset.univ (Mid m) = iprop(recs m ∗ (bigSep Finset.univ fun c => iprop(atPos ER (barC c) 0 ∅ 0 ∗ Poss c))
      ∗ (bigSep Finset.univ fun c : Dev nD => toks c) ∗ bigSep Finset.univ fun c : Dev nD => Six c) := by
    unfold Mid recs
    rw [bigSep_sep', bigSep_sep' , bigSep_sep' (s := Finset.univ) (Φ := fun c : Dev nD => (toks c : sProp 𝕄)), bigSep_univ_prod (fun p : Dev nD × Fin 67 => rec1 m (kcell p))]
  have e' : bigSep Finset.univ (fun c : Dev nD => iprop((atPos ER (barC c) 0 ∅ 0 ∗ Poss c) ∗ PayToks c ∗ Six c))
      = (iprop((bigSep Finset.univ fun c => iprop(atPos ER (barC c) 0 ∅ 0 ∗ Poss c))
      ∗ (bigSep Finset.univ fun c : Dev nD => PayToks c) ∗ bigSep Finset.univ fun c : Dev nD => Six c) : sProp 𝕄) := by
    rw [bigSep_sep', bigSep_sep' (s := Finset.univ) (Φ := fun c : Dev nD => (PayToks c : sProp 𝕄))]
  rw [e]
  refine BIBase.Entails.trans ?_ (share_out (R := recs m) (Φ := fun c : Dev nD => iprop((atPos ER (barC c) 0 ∅ 0 ∗ Poss c) ∗ PayToks c ∗ Six c)))
  rw [e']
  exact sep_mono_right (sep_mono_right (sep_mono_left toks_around))

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem O₀_sum : (O₀ : Dev nD → OT) = fun d => ((((∑ k, tallyAt (cell (py d) (yrS k)) () NB) + ∑ k, tallyAt (cell (pz d) (zrS k)) () NB)
    + tallyAt (cell (py d) srS) () NS) + tallyAt (barC (pz d)) () 1) + tallyAt (barC (py d)) () 1 := by
  funext d
  unfold O₀ O₁ OW OFrom
  simp only [Nat.zero_le, if_true]

theorem creds (c : Dev nD) : (Pipeline.launchCred O₀ c : sProp 𝕄) ⊢ iprop(cred (tallyAt (barC c) () 2) ∗ Creds c) := by
  rw [O₀_sum, Pipeline.launchCred_add, Pipeline.launchCred_add, Pipeline.launchCred_add, Pipeline.launchCred_add,
    Pipeline.launchCred_sum, Pipeline.launchCred_sum]
  have hb : iprop(cred (tallyAt (barC c) () 1) ∗ cred (tallyAt (barC c) () 1)) ⊢ (cred (tallyAt (barC c) () 2) : sProp 𝕄) := by
    rw [← tallyAt_add (barC c) () 1 1]; exact (cred_add _ _).2
  unfold Creds
  iintro ⟨⟨⟨⟨Hy, Hz⟩, Hs⟩, Hb1⟩, Hb2⟩
  ihave Hb1' := (Pipeline.launchCred_tallyAt (.reg barS) pz pz pz_pz pz_pz () 1 c) $$ Hb1
  ihave Hb2' := (Pipeline.launchCred_tallyAt (.reg barS) py py py_py py_py () 1 c) $$ Hb2
  ihave Hs' := (Pipeline.launchCred_tallyAt (.dma srS) py py py_py py_py () NS c) $$ Hs
  ihave Hy' := (each (F := F) Finset.univ _ (fun k => cred (tallyAt (cell c (yrS k)) () NB))
    fun k => Pipeline.launchCred_tallyAt (.dma (yrS k)) py py py_py py_py () NB c) $$ Hy
  ihave Hz' := (each (F := F) Finset.univ _ (fun k => cred (tallyAt (cell c (zrS k)) () NB))
    fun k => Pipeline.launchCred_tallyAt (.dma (zrS k)) pz pz pz_pz pz_pz () NB c) $$ Hz
  isplitl [Hb1' Hb2']
  · iapply hb
    isplitl [Hb1'] <;> iassumption
  isplitl [Hy']; · iexact Hy'
  isplitl [Hz']; · iexact Hz'
  iexact Hs'

end Cert.KernelIdeal.Run

end
-- ==== Proof.Ends.lean ====
/-
What a device holds when the kernel starts and when it ends, in terms of whole buffers.
-/
module

public import proofs.«01_k».proof.Proof.Alloc
public import Idealize.ShloMosaic.Lib.Pipeline.CollectiveSegs

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig Unit (Elt F) ℕ UU ℕ

variable (m : (ℓ : Loc nD τ sig) → Buf (Elt F) ℓ)

/-! ## Buffers in two slots -/

section
variable {ℓ : Loc nD τ sig} (K : Fin 2 → Finset (Idx ℓ)) (idx : Idx ℓ → Fin 2)

theorem slots_join (h : ∀ t i, i ∈ K t ↔ idx i = t) :
    iprop((∃ f : Buf (Elt F) ℓ, ℓ ↦[K 0]{fullShare} f) ∗ ∃ f : Buf (Elt F) ℓ, ℓ ↦[K 1]{fullShare} f)
      ⊢ (iprop(∃ f : Buf (Elt F) ℓ, ℓ ↦[Finset.univ]{fullShare} f) : sProp 𝕄) := by
  have e : ∀ f₀ : Buf (Elt F) ℓ, iprop((∃ f : Buf (Elt F) ℓ, ℓ ↦[K 0]{fullShare} f) ∗ ∃ f : Buf (Elt F) ℓ, ℓ ↦[K 1]{fullShare} f)
      ⊢ (iprop(∃ f : Buf (Elt F) ℓ, ℓ ↦[Finset.univ]{fullShare} f) : sProp 𝕄) := fun f₀ => by
    rw [← two (fun t => iprop(∃ f : Buf (Elt F) ℓ, ℓ ↦[K t]{fullShare} f))]
    exact cover_any K idx h fullShare f₀
  iintro ⟨⟨%f, H0⟩, H1⟩
  iapply (e f)
  isplitl [H0]; · iexists f; iexact H0
  iexact H1

theorem slots_split (h : ∀ t i, i ∈ K t ↔ idx i = t) :
    (iprop(∃ f : Buf (Elt F) ℓ, ℓ ↦[Finset.univ]{fullShare} f) : sProp 𝕄)
      ⊢ iprop((∃ f : Buf (Elt F) ℓ, ℓ ↦[K 0]{fullShare} f) ∗ ∃ f : Buf (Elt F) ℓ, ℓ ↦[K 1]{fullShare} f) := by
  rw [← two (fun t => iprop(∃ f : Buf (Elt F) ℓ, ℓ ↦[K t]{fullShare} f))]
  iintro ⟨%f, H⟩
  iapply (cover_some K idx h fullShare f)
  iexact H

variable {T : Type} [Fintype T] [DecidableEq T] (K' : T → Finset (Idx ℓ)) (idx' : Idx ℓ → T)
theorem blocks_split (h : ∀ t i, i ∈ K' t ↔ idx' i = t) :
    (iprop(∃ f : Buf (Elt F) ℓ, ℓ ↦[Finset.univ]{fullShare} f) : sProp 𝕄)
      ⊢ bigSep Finset.univ fun t => iprop(∃ f : Buf (Elt F) ℓ, ℓ ↦[K' t]{fullShare} f) := by
  iintro ⟨%f, H⟩
  iapply (cover_some K' idx' h fullShare f)
  iexact H
end

/-- A whole buffer, holding anything. -/
abbrev someBuf (c : Dev nD) (b : Ref sig .tc) : sProp 𝕄 :=
  iprop(∃ f : Buf (Elt F) ((c : Thread nD τ).loc b), ((c : Thread nD τ).loc b) ↦{fullShare} f)

theorem w_split (c : Dev nD) : someBuf (F := F) c cc0_scratch1 ⊢ iprop(anyPts (F := F) (wSlot 0) c ∗ anyPts (wSlot 1) c) :=
  slots_split (ℓ := wbM.view.loc (c : Thread nD τ)) (fun k => (wSlot k).view.set) (fun i : S2x2048x512.Idx => (i 0 : Fin 2)) wSlot_at
theorem w_join (c : Dev nD) : iprop(anyPts (F := F) (wSlot 0) c ∗ anyPts (wSlot 1) c) ⊢ someBuf (F := F) c cc0_scratch1 :=
  slots_join (ℓ := wbM.view.loc (c : Thread nD τ)) (fun k => (wSlot k).view.set) (fun i : S2x2048x512.Idx => (i 0 : Fin 2)) wSlot_at
theorem st_split (c : Dev nD) : someBuf (F := F) c cc0_scratch2 ⊢ iprop(anyPts (F := F) (stSlot 0) c ∗ anyPts (stSlot 1) c) :=
  slots_split (ℓ := stM.view.loc (c : Thread nD τ)) (fun k => (stSlot k).view.set) (fun i : S2x1024x1024.Idx => (i 0 : Fin 2)) stSlot_at
theorem st_join (c : Dev nD) : iprop(anyPts (F := F) (stSlot 0) c ∗ anyPts (stSlot 1) c) ⊢ someBuf (F := F) c cc0_scratch2 :=
  slots_join (ℓ := stM.view.loc (c : Thread nD τ)) (fun k => (stSlot k).view.set) (fun i : S2x1024x1024.Idx => (i 0 : Fin 2)) stSlot_at
theorem ed_split (c : Dev nD) : someBuf (F := F) c cc0_scratch3 ⊢ iprop(anyPts (F := F) (edSlot 0) c ∗ anyPts (edSlot 1) c) :=
  slots_split (ℓ := edM.view.loc (c : Thread nD τ)) (fun k => (edSlot k).view.set) (fun i : S2x2x1024x512.Idx => (i 0 : Fin 2)) edSlot_at
theorem ed_join (c : Dev nD) : iprop(anyPts (F := F) (edSlot 0) c ∗ anyPts (edSlot 1) c) ⊢ someBuf (F := F) c cc0_scratch3 :=
  slots_join (ℓ := edM.view.loc (c : Thread nD τ)) (fun k => (edSlot k).view.set) (fun i : S2x2x1024x512.Idx => (i 0 : Fin 2)) edSlot_at

theorem e_split (c : Dev nD) : someBuf (F := F) c cc0_scratch0 ⊢ bigSep Finset.univ fun k => anyPts (F := F) (eB k) c :=
  blocks_split (ℓ := eM.view.loc (c : Thread nD τ)) (fun k => (eB k).view.set) (fun i : S32x1024x512.Idx => (i 0 : Fin 32)) eB_at
theorem o_split (c : Dev nD) : someBuf (F := F) c main_v1_0 ⊢ bigSep Finset.univ fun k => anyPts (F := F) (oT c k) c :=
  blocks_split (ℓ := oM.view.loc (c : Thread nD τ)) (fun k => (oT c k).view.set) (tileOf c) (oT_at c)
theorem ry_split (c : Dev nD) : someBuf (F := F) c main_v1_1 ⊢ bigSep Finset.univ fun k => anyPts (F := F) (ryB k) c :=
  blocks_split (ℓ := ryM.view.loc (c : Thread nD τ)) (fun k => (ryB k).view.set) (fun i : S16x1024x512.Idx => (i 0 : Fin 16)) ryB_at
theorem rz_split (c : Dev nD) : someBuf (F := F) c main_v1_2 ⊢ bigSep Finset.univ fun k => anyPts (F := F) (rzB k) c :=
  blocks_split (ℓ := rzM.view.loc (c : Thread nD τ)) (fun k => (rzB k).view.set) (fun i : S16x1024x512.Idx => (i 0 : Fin 16)) rzB_at

theorem s_any (c : Dev nD) : someBuf (F := F) c cc0_scratch4 = anyPts (F := F) sM c := by
  unfold someBuf anyPts pts
  rw [show sM.view.set = Finset.univ from View.set_whole _]
theorem sr_any (c : Dev nD) : someBuf (F := F) c cc0_scratch5 = anyPts (F := F) srM c := by
  unfold someBuf anyPts pts
  rw [show srM.view.set = Finset.univ from View.set_whole _]

/-! ## Before and after -/

/-- What a device brings to the kernel besides the scratch buffers. -/
def Bring (c : Dev nD) : sProp 𝕄 :=
  iprop(levAts L lv ∗ (cred (tallyAt (barC c) () 2) ∗ Creds c) ∗ G' m c ∗ WAll m c
    ∗ someBuf (F := F) c main_v1_0 ∗ someBuf (F := F) c main_v1_1 ∗ someBuf (F := F) c main_v1_2)
/-- The scratch buffers. -/
def Scr (c : Dev nD) : sProp 𝕄 :=
  iprop(someBuf (F := F) c cc0_scratch0 ∗ someBuf (F := F) c cc0_scratch1 ∗ someBuf (F := F) c cc0_scratch2 ∗ someBuf (F := F) c cc0_scratch3
    ∗ someBuf (F := F) c cc0_scratch4 ∗ someBuf (F := F) c cc0_scratch5)
/-- What a device has of the kernel's arrays and the barrier's cell at the end. -/
def Out (c : Dev nD) : sProp 𝕄 :=
  iprop(semVal (barC c) 0 ∗ WAll m c ∗ (oM.view.loc (c : Thread nD τ) ↦[Finset.univ]{fullShare} outBuf m c))
/-- Its own semaphores. -/
def Sems (c : Dev nD) : sProp 𝕄 := iprop((fam66 fun n => semVal (cell c n) 0) ∗ Six c)

theorem to_start (c : Dev nD) : iprop((Bring m c ∗ Scr c) ∗ OWE c (O₀ c) ∗ XIn m c) ⊢ Start m c := by
  unfold Bring Scr G' PayToks Six six
  iintro ⟨⟨⟨Hlev, ⟨Hcb, Hcr⟩, ⟨Hrec, ⟨Hab, Hpos⟩, ⟨Hbt, Htok⟩, S1, S2, S3, S4, S5, S6⟩, HW, HO, HY, HZ⟩, He, Hw, Hst, Hed, Hs, Hsr⟩, HOW, HX⟩
  ihave He' := (e_split c) $$ He
  ihave HO' := (o_split c) $$ HO
  ihave HY' := (ry_split c) $$ HY
  ihave HZ' := (rz_split c) $$ HZ
  ihave Hw' := (w_split c) $$ Hw
  ihave Hst' := (st_split c) $$ Hst
  ihave Hed' := (ed_split c) $$ Hed
  ihave Hs' := (Entails.of_eq (s_any c)) $$ Hs
  ihave Hsr' := (Entails.of_eq (sr_any c)) $$ Hsr
  icases Hw' with ⟨Hw0, Hw1⟩
  icases Hst' with ⟨Hst0, Hst1⟩
  icases Hed' with ⟨Hed0, Hed1⟩
  unfold Start ctx Bufs WFree SFree DFree
  isplitl [Hrec Hlev]
  · isplitl [Hrec] <;> iassumption
  isplitl [HOW]; · iexact HOW
  isplitl [Hab Hcb]
  · isplitl [Hab] <;> iassumption
  isplitl [Hbt]; · iexact Hbt
  isplitl [HY' Hsr']
  · isplitl [HY'] <;> iassumption
  isplitl [HZ']; · iexact HZ'
  isplitr [Htok Hcr Hpos]
  · isplitl [HW]; · iexact HW
    isplitl [Hw0 Hw1 S1 S2]
    · isplitl [Hw0 S1]
      · isplitl [Hw0] <;> iassumption
      · isplitl [Hw1] <;> iassumption
    isplitl [HX]; · iexact HX
    isplitl [He']; · iexact He'
    isplitl [Hs']; · iexact Hs'
    isplitl [HO']; · iexact HO'
    isplitl [Hst0 Hst1 S3 S4]
    · isplitl [Hst0 S3]
      · isplitl [Hst0] <;> iassumption
      · isplitl [Hst1] <;> iassumption
    · isplitl [Hed0 S5]
      · isplitl [Hed0] <;> iassumption
      · isplitl [Hed1] <;> iassumption
  isplitl [Htok]; · iexact Htok
  isplitl [Hcr]; · iexact Hcr
  iexact Hpos

theorem of_done (c : Dev nD) : iprop(semVal (barC c) 0 ∗ Done m c) ⊢ iprop((Out m c ∗ Sems c ∗ Scr c) ∗ OWE c 0 ∗ XIn m c) := by
  unfold Done WFree SFree DFree Out Sems Scr Six six
  iintro ⟨Hb, HOW, Hsem, HW, ⟨⟨Hw0, S1⟩, Hw1, S2⟩, HX, He, Hs, Hsr, HO, ⟨⟨Hst0, S3⟩, Hst1, S4⟩, ⟨Hed0, S5⟩, Hed1, S6⟩
  isplitr [HOW HX]
  · isplitl [Hb HW HO]
    · isplitl [Hb]; · iexact Hb
      isplitl [HW]; · iexact HW
      iexact HO
    isplitl [Hsem S1 S2 S3 S4 S5 S6]
    · isplitl [Hsem]; · iexact Hsem
      isplitl [S1]; · iexact S1
      isplitl [S2]; · iexact S2
      isplitl [S3]; · iexact S3
      isplitl [S4]; · iexact S4
      isplitl [S5]; · iexact S5
      iexact S6
    isplitl [He]; · iexists (eBuf m c); iexact He
    isplitl [Hw0 Hw1]
    · iapply (w_join c); isplitl [Hw0] <;> iassumption
    isplitl [Hst0 Hst1]
    · iapply (st_join c); isplitl [Hst0] <;> iassumption
    isplitl [Hed0 Hed1]
    · iapply (ed_join c); isplitl [Hed0] <;> iassumption
    isplitl [Hs]
    · iapply (Entails.of_eq (s_any c).symm); iexists (sBuf m c); iexact Hs
    · iapply (Entails.of_eq (sr_any c).symm); iexists (srBuf m c); iexact Hsr
  isplitl [HOW]; · iexact HOW
  iexact HX

end Cert.KernelIdeal.Run

end
-- ==== Proof.Launch.lean ====
/-
The launch, and the run of the whole program: what every buffer and every semaphore hold at the end.
-/
module

public import proofs.«01_k».proof.Proof.Ends
public import proofs.«01_k».proof.Proof.Gen.KernelIdeal.Frame

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Facts₀ Facts

variable {F : FTy → Type} [FloatOps F]

local notation "𝕄" => MT nD τ sig Unit (Elt F) ℕ UU ℕ

variable (m : (ℓ : Loc nD τ sig) → Buf (Elt F) ℓ)
variable (ρ : Dev nD → PrngReg)

/-! ## The kernel as the launch sees it -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
  Φ t := match t with
    | ⟨0, _⟩ => iprop(Bring m c ∗ Scr c)
    | ⟨_ + 1, _⟩ => iprop(Out m c ∗ Sems c ∗ Scr c)
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged input, holding `X`. -/
abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

theorem before_x (c : Dev nD) (d) : (dats m ρ 0 c).before (0 : Fin 1) Gen.t0_0 d = xstg m c := by
  unfold Dat.before; rw [if_pos (Gen.fetch0_0 Gen.t0_0)]; rfl

def bodyPre (c : Dev nD) : sProp 𝕄 :=
  iprop((Bring m c ∗ Scr c) ∗ (dats m ρ 0 c).owesAt () (Gen.t0_0).castSucc
    ∗ (∃ d, stg c ((dats m ρ 0 c).before (0 : Fin 1) Gen.t0_0 d)))
def bodyPost (c : Dev nD) : sProp 𝕄 :=
  iprop((Out m c ∗ Sems c ∗ Scr c) ∗ (dats m ρ 0 c).owesAt () (Gen.t0_0).succ ∗ stg c (xstg m c))

theorem sound_body (c : Dev nD) : bodyPre m ρ c ⊢ run c body (fun _ => bodyPost m ρ c) := by
  unfold bodyPre
  iintro ⟨HB, Ho, ⟨%d, %g, %hg, Hx⟩⟩
  rw [before_x m ρ c d] at hg
  subst hg
  iapply (run_body m c (fun _ => bodyPost m ρ c))
  isplitl [HB Ho Hx]
  · iapply (to_start m c)
    isplitl [HB]; · iexact HB
    isplitl [Ho]
    · unfold Dat.owesAt Pipeline.owesWithin OWE
      icases Ho with ⟨%W, %hW, HO⟩
      iexists W; iexact HO
    unfold XIn; iexact Hx
  iintro Hd
  ihave Hd' := (of_done m c) $$ Hd
  icases Hd' with ⟨HP, Ho, HX⟩
  unfold bodyPost
  isplitl [HP]; · iexact HP
  isplitl [Ho]
  · unfold Dat.owesAt Pipeline.owesWithin OWE
    icases Ho with ⟨%W, HO⟩
    iexists W; isplitr
    · ipureintro; exact fun _ _ => Or.inl trivial
    iexact HO
  unfold XIn
  iexists (xstg m c); isplitr; · ipureintro; rfl
  iexact HX

set_option maxRecDepth 100000 in
theorem body_obligation (c : Dev nD) : BodyObligation (dats (F := F) m ρ 0 c) (defs₀ (F := F)) 𝒱₀ () Set.univ := fun t => by
  rw [Gen.fin_N0 t]
  rw [Gen.bigSep_W0, Gen.bigSep_W0]
  simp only [owns_whole_eq]
  have e : defs₀ (F := F) Proc.tc 0 (Gen.t0_0, cfg0.slots Gen.t0_0) = body := body_eq Gen.t0_0
  rw [e]
  exact sound_body m ρ c

/-! ## The theorem's conditions -/

theorem share_eq (c : Dev nD) (w : Fin cfg0.W) : (dats m ρ 0 c).share w = fullShare := by unfold Dat.share; split <;> rfl

theorem bring_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Bring m c ∗ emp) := by
  rw [Pipeline.unscopedRestP_none, Gen.unscopedRest0_eq]
  iintro ⟨⟨HW, HO, HY, HZ⟩, Hlev, Hcr, -, HG⟩
  ihave Hc := (creds (F := F) c) $$ Hcr
  imodintro
  unfold Bring
  isplitl
  · isplitl [Hlev]; · iexact Hlev
    isplitl [Hc]; · iexact Hc
    isplitl [HG]; · iexact HG
    isplitl [HW]; · unfold WAll; iexact HW
    isplitl [HO]; · iexists _; iexact HO
    isplitl [HY]; · iexists _; iexact HY
    iexists _; iexact HZ
  · iempintro

theorem phi_in (c : Dev nD) :
    iprop(Bring m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Bring m c ∗ Scr c) from rfl, Gen.scopedRest0_eq]
  unfold Scr
  iintro ⟨Hs, -, Hr⟩
  isplitl [Hs]; · iexact Hs
  iexact Hr

theorem phi_out (c : Dev nD) :
    (dats m ρ 0 c).Φ (Fin.last cfg0.N) ⊢ iprop(Out m c ∗ Pipeline.ownSems0 osem c ∗ Pipeline.scopedRest cfg0.spec c) := by
  rw [show (dats m ρ 0 c).Φ (Fin.last cfg0.N) = iprop(Out m c ∗ Sems c ∗ Scr c) from rfl, Gen.scopedRest0_eq, ownSems0_eq]
  unfold Sems Scr
  exact BIBase.Entails.rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mw_stage c _ (Or.inl (by fin_cases w; fin_cases s; rfl))
    · exact BIBase.Entails.trans (Q := iprop(emp)) (by iintro -; iempintro) (mw_zero c _)

/-! ## The run -/

/-- What is read of the final memory. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_v1_0) = outBuf m c

theorem buf_read (c : Dev nD) (b : Ref sig .tc) (f : Buf (Elt F) ((c : Thread nD τ).loc b)) (s' : Phys nD τ sig (Elt F)) :
    iprop((((c : Thread nD τ).loc b) ↦{fullShare} f) ∗ SI s') ⊢ (⌜s'.mem.mem ((c : Thread nD τ).loc b) = f⌝ : sProp 𝕄) := by
  iintro ⟨HW, HSI⟩
  ihave H := (SI_pointsTo_agree (st := s') (ℓ := (c : Thread nD τ).loc b) (I := Finset.univ) (q := fullShare) (f := f)) $$ [HSI HW]
  · isplitl [HSI] <;> iassumption
  icases H with %h
  ipureintro; exact funext fun i => h i (Finset.mem_univ i)

theorem out_pure (c : Dev nD) (s' : Phys nD τ sig (Elt F)) : iprop(Out m c ∗ SI s') ⊢ (⌜QY m c s'.mem⌝ : sProp 𝕄) := by
  have h1 : iprop(Out m c ∗ SI s') ⊢ (⌜∀ sm : SemLoc sig, sm.isScoped .tc = false → s'.mem.sem ((c.tc : Thread nD τ), sm) = 0⌝ : sProp 𝕄) := by
    unfold Out; rw [← unscopedSems0_eq]
    exact ((sep_mono_left sep_elim_left).trans (tcUnscoped_read c s')).trans Laws.persistently_pure.1
  have h2 : iprop(Out m c ∗ SI s') ⊢ (⌜s'.mem.mem ((c : Thread nD τ).loc main_arg1) = m ((c : Thread nD τ).loc main_arg1)⌝ : sProp 𝕄) := by
    unfold Out WAll
    exact (sep_mono_left (sep_elim_right.trans sep_elim_left)).trans (buf_read c main_arg1 _ s')
  have h3 : iprop(Out m c ∗ SI s') ⊢ (⌜s'.mem.mem ((c : Thread nD τ).loc main_v1_0) = outBuf m c⌝ : sProp 𝕄) := by
    unfold Out
    exact (sep_mono_left (sep_elim_right.trans sep_elim_right)).trans (buf_read c main_v1_0 _ s')
  exact fun x hx => ⟨h1 x hx, h2 x hx, h3 x hx⟩

theorem out_read (c : Dev nD) (s' : Phys nD τ sig (Elt F)) :
    iprop(Out m c ∗ emp ∗ SI s') ⊢ |={Set.univ}=> iprop(⌜QY m c s'.mem⌝ ∗ SI s') := by
  have e : iprop(Out m c ∗ SI s') ⊢ (<pers> ⌜QY m c s'.mem⌝ : sProp 𝕄) := (out_pure m c s').trans Laws.persistently_pure.2
  iintro ⟨HO, -, HSI⟩
  ihave %h := e $$ [HO HSI]
  · isplitl [HO] <;> iassumption
  imodintro
  isplitr; · ipureintro; exact h
  iexact HSI

/-- Of the final memory: each device's result, its two inputs as they were. -/
def Post (r : PUnit × MemSt nD τ sig (Elt F)) : Prop :=
  (∀ c : Dev nD, r.2.mem ((c : Thread nD τ).loc main_v1_0) = outBuf m c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

theorem x_same (c : Dev nD) : (dats m ρ 0 c).arrAt (0 : Fin 1) cfg0.N = m ((c : Thread nD τ).loc main_arg0) :=
  (dats (F := F) m ρ 0 c).arrAt_in (0 : Fin 1) rfl _

set_option maxRecDepth 100000 in
/-- Over any float values, from any memory with zero counters: every weakly fair execution of the eight kernels ends,
    with each device's result as computed, the inputs unchanged and every counter at zero. -/
theorem run_main : θ_run defs (onTc (τ := τ) (main (F := F))) (s₀ m ρ) (Post m) :=
  Pipeline.θ_run_region_owing_glob_pf (fun p => (cfgs p).toPCfg) (fun p => (cfgs p).toPCfg_adm) (dats m ρ) () Gen.cellOf_inj (0 : Fin 1)
    Gen.winFacts0.to₀ ownSemFacts (Pipeline.PreFacts.none _) EP defs₀ 𝒱₀ m ρ main
    (hmain := fun _ => rfl)
    (hbody := body_obligation m ρ) (hne := fun w => by fin_cases w; exact Nat.succ_pos _) (harr := Gen.arr_whole0) (hstage := Gen.stage_whole0)
    (hshare := share_eq m ρ) (hdistinct := Gen.winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX' := (own_split _) $$ HX
      imod (fund m) $$ HX' with HG
      imodintro
      isplitl [HP] <;> iassumption)
    (hglob := glob m)
    (hA := fun _ _ => rfl) (hpf := fun _ k => k.elim0)
    (X := Bring m) (Y := Out m) (Z := fun _ => iprop(emp))
    (hX := bring_intro m ρ) (hin := phi_in m ρ) (hout := phi_out m ρ)
    (QY := QY m) (hY := out_read m)
    (hQ := fun _ h hs => ⟨fun c => ⟨(h c).2.2.2.2, ((h c).1 (0 : Fin 1)).trans (x_same m ρ c), (h c).2.2.2.1⟩, sem_eq_zero hs fun c => (h c).2.2.1⟩)

end Cert.KernelIdeal.Run

end
-- ==== Proof.Same.lean ====
/- The kernel and the module printed for reading over the reals are the same text: no rule was
   offered, so every function of one is the other's. The two label tables are compared label by
   label. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option maxRecDepth 100000 in
/-- The two bodies are one program. -/
theorem same_body : Cert.Kernel.cc0_body (F := Bits) = Cert.KernelIdeal.cc0_body (F := Bits) := rfl

set_option maxRecDepth 100000 in
/-- The two tables of bodies hold the same body at their one label. -/
theorem same_bodies : Cert.Kernel.defs₀ (F := Bits) = Cert.KernelIdeal.defs₀ (F := Bits) := by
  unfold Cert.Kernel.defs₀ Cert.KernelIdeal.defs₀
  refine congrArg Defs.onTc ?_
  funext l a
  match l, a with
  | 0, (_, _) => exact rfl

set_option maxRecDepth 100000 in
/-- So the two programs' tables agree, the pipeline's labels included. -/
theorem same_defs : Cert.Kernel.defs (F := Bits) = Cert.KernelIdeal.defs (F := Bits) :=
  congrArg (Pipeline.defs Cert.KernelIdeal.pcfgs) same_bodies

end Cert.Proof

end
-- ==== Proof.Soft.lean ====
/-
The softmax of real numbers over the extended reals: with and without the shift by a real number.
-/
module

public import Idealize.ShloMosaic.PureOps.Ideal.Laws
public import Idealize.ShloMosaic.Lib.IdealHost

@[expose] public section

noncomputable section

namespace Cert.KernelIdeal.Run

open Idealize.ShloMosaic
open scoped BigOperators

/-- A finite sum of reals is a real. -/
theorem coe_sum {ι : Type} (s : Finset ι) (f : ι → ℝ) : (∑ k ∈ s, ((f k : ℝ) : EReal)) = ((∑ k ∈ s, f k : ℝ) : EReal) := by
  classical
  induction s using Finset.induction with
  | empty => simp
  | insert a s ha ih => rw [Finset.sum_insert ha, Finset.sum_insert ha, ih, EReal.coe_add]

/-- The softmax written with the reciprocal of the sum is the one shifted by any real number. -/
theorem soft_shift {ι : Type} [Fintype ι] [Nonempty ι] (l : ι → ℝ) (M : ℝ) (j : ι) :
    Ideal.exp (l j : EReal) * Ideal.div 1 (∑ k, Ideal.exp (l k : EReal))
      = Ideal.div (Ideal.exp ((l j : EReal) - (M : EReal))) (∑ k, Ideal.exp ((l k : EReal) - (M : EReal))) := by
  have hp : (0 : ℝ) < ∑ k, Real.exp (l k) :=
    Finset.sum_pos (fun k _ => Real.exp_pos _) Finset.univ_nonempty
  have hq : (0 : ℝ) < ∑ k, Real.exp (l k - M) :=
    Finset.sum_pos (fun k _ => Real.exp_pos _) Finset.univ_nonempty
  have hs : (∑ k, Real.exp (l k - M)) = (∑ k, Real.exp (l k)) * Real.exp (-M) := by
    rw [Finset.sum_mul]
    exact Finset.sum_congr rfl fun k _ => by rw [← Real.exp_add, sub_eq_add_neg]
  simp only [← EReal.coe_sub, Ideal.exp_coe]
  rw [coe_sum, coe_sum, Ideal.div_coe hp.ne', Ideal.div_coe hq.ne', one_mul, ← EReal.coe_mul, ← EReal.coe_mul, hs,
    sub_eq_add_neg, Real.exp_add]
  congr 1
  have := Real.exp_pos (-M)
  field_simp

/-- The greatest of finitely many reals, started from the least extended real, is a real if there is one at all. -/
theorem fold_max_real {ι : Type} (s : Finset ι) (f : ι → ℝ) :
    s = ∅ ∨ ∃ M : ℝ, s.fold max (⊥ : EReal) (fun k => (f k : EReal)) = (M : EReal) := by
  classical
  induction s using Finset.induction with
  | empty => exact .inl rfl
  | insert a s ha ih =>
    refine .inr ?_
    rw [Finset.fold_insert ha]
    rcases ih with rfl | ⟨M, hM⟩
    · exact ⟨f a, by simp⟩
    · refine ⟨max (f a) M, ?_⟩
      rw [hM]
      exact ((EReal.coe_strictMono.monotone).map_max).symm

/-- An extended real whose absolute value is below the greatest is a real. -/
theorem real_of_abs_lt {x : EReal} (h : max x (-x) < ⊤) : ∃ r : ℝ, x = (r : EReal) := by
  induction x with
  | bot => simp at h
  | top => simp at h
  | coe r => exact ⟨r, rfl⟩

/-- The pattern of the positive infinity. -/
theorem ofBits_inf : Ideal.ofBits .f32 0x7F800000#32 = ⊤ := by
  simp [Ideal.ofBits, Ideal.ieee]
/-- The pattern of the negative infinity. -/
theorem ofBits_neg_inf : Ideal.ofBits .f32 0xFF800000#32 = ⊥ := by
  simp [Ideal.ofBits, Ideal.ieee]

end Cert.KernelIdeal.Run

end
-- ==== Proof.Value.lean ====
/-
The contents of the buffers read at an index, over the extended reals.
-/
module

public import proofs.«01_k».proof.Defs
public import proofs.«01_k».proof.Proof.Cont
public import proofs.«01_k».proof.Proof.Soft
public import Idealize.ShloMosaic.Lib.MatmulPlain
public import Idealize.ShloMosaic.Lib.ValueLayoutCasts

@[expose] public section

noncomputable section

namespace Cert.KernelIdeal.Run

open Idealize.ShloMosaic Idealize.ShloMosaic.TcCoe
open Idealize.SL Idealize.SL.Sem
open Idealize.ShloMosaic.ValueIdx
open Cert.KernelIdeal Facts₀ Facts
open scoped BigOperators

variable (m : (ℓ : Loc nD τ sig) → Buf (Elt Ideal) ℓ)

/-- The activations of a device, and its block of the weight. -/
def actv (c : Dev nD) : S1024x2048.Idx → EReal := m ((c : Thread nD τ).loc main_arg0)
def wght (c : Dev nD) : S2048x16384.Idx → EReal := m ((c : Thread nD τ).loc main_arg1)

/-- The block of the weight's columns, counted from the left, that step `p` loads. -/
def wcol (c : Dev nD) (p : Fin 32) : Fin 32 := ⟨16 * ((c.val % 2 + p.val / 16) % 2) + p.val % 16, by omega⟩
theorem wcol_wcol (c : Dev nD) (p : Fin 32) : wcol c (wcol c p) = p := by
  apply Fin.ext
  have := p.isLt
  simp only [wcol]; omega
theorem wOff_eq (c : Dev nD) (p : Fin 32) : wOff c p = ![0, 512 * (wcol c p).val] := by
  have hc : c.val < 8 := c.isLt
  have hp := p.isLt
  by_cases h : p.val < 16
  · rw [wOff_lo c p h]
    refine (Gen.k0_off1_eq c ⟨p.val, h⟩).trans ?_
    congr 2; simp only [wcol]; omega
  · rw [wOff_hi c p h]
    refine (Gen.k0_off2_eq c ⟨p.val - 16, by omega⟩).trans ?_
    congr 2; simp only [wcol]; omega

/-- One logit of a device: row `i`, column `j` of block `b` of its part of the weight. -/
def lg (c : Dev nD) (i : Fin 1024) (b : Fin 32) (j : Fin 512) : EReal :=
  ∑ k : Fin 2048, actv m c (ix2 i k)
    * wght m c (ix2 k ⟨512 * b.val + j.val, by have := b.isLt; have := j.isLt; omega⟩)

theorem wbC_at (c : Dev nD) (p : Fin 32) (s : Fin 2) (k : Fin 2048) (j : Fin 512) :
    wbC m c p (ix3 s k j) = wght m c (ix2 k ⟨512 * (wcol c p).val + j.val, by
      have := (wcol c p).isLt; have := j.isLt; omega⟩) := by
  show wght m c ((Rect.unit (s := S2048x16384) (wOff c p) S2048x512.size _).emb (ix2 k j)) = _
  congr 1
  funext a; apply Fin.ext
  match a with
  | ⟨0, _⟩ => simp [wOff_eq]
  | ⟨1, _⟩ => simp [wOff_eq]

theorem eV_at (c : Dev nD) (p : Fin 32) (i : Fin 1024) (j : Fin 512) :
    eV m c p (ix2 i j) = Ideal.exp (lg m c i (wcol c p) j) := by
  show Ideal.exp (FloatOps.matmul (F := Ideal) (φ₁ := .bf16) (φ₂ := .bf16) (DotDims.plain 1024 2048 512) none _ _ _ (ix2 i j)) = _
  rw [Ideal.matmul_plain_apply]
  have h0 : (constant (F := Ideal) S1024x512 .f32 0x00000000#32) (ix2 i j) = 0 := Ideal.ofBits_zero_f32
  rw [h0, zero_add]
  congr 1
  refine Finset.sum_congr rfl fun k _ => ?_
  congr 1
  · rw [shapeCast_self]
    show actv m c _ = _
    congr 1
    funext a; apply Fin.ext
    match a with
    | ⟨0, _⟩ => show 0 * 1024 + 1 * (0 + 1 * i.val) = i.val; omega
    | ⟨1, _⟩ => show 0 * 2048 + 1 * (0 + 1 * k.val) = k.val; omega
  · show shapeCast S2048x512 (wbM.view.readAt (Elt Ideal) (wR (par p.val)).toLoadRect (wbC m c p))
      shapeCasts_S1x2048x512_S2048x512 (ix2 k j) = _
    refine (shapeCast_1ab_ab_apply (a := 2048) (b := 512) _ _ k j).trans ?_
    refine Eq.trans ?_ (wbC_at m c p (par p.val) k j)
    show wbC m c p _ = _
    congr 1
    funext a; apply Fin.ext
    match a with
    | ⟨0, _⟩ => show (par p.val).val + 1 * 0 = (par p.val).val; omega
    | ⟨1, _⟩ => show 0 + 1 * k.val = k.val; omega
    | ⟨2, _⟩ => show 0 + 1 * j.val = j.val; omega

/-! ## The sums -/

theorem accV_at (c : Dev nD) (i : Fin 1024) (j : Fin 512) : ∀ n : ℕ, n ≤ 32 →
    accV m c n (ix2 i j) = ∑ p : Fin 32, if p.val < n then eV m c p (ix2 i j) else 0
  | 0, _ => by
    have h0 : accV m c 0 (ix2 i j) = 0 := Ideal.ofBits_zero_f32
    simp [h0]
  | n + 1, hn => by
    have h1 : n < 32 := hn
    rw [← accV_succ m c ⟨n, h1⟩]
    show accV m c n (ix2 i j) + eV m c ⟨n, h1⟩ (ix2 i j) = _
    rw [accV_at c i j n (by omega)]
    have e : ∀ p : Fin 32, (if p.val < n + 1 then eV m c p (ix2 i j) else 0)
        = (if p.val < n then eV m c p (ix2 i j) else 0) + if p = ⟨n, h1⟩ then eV m c p (ix2 i j) else 0 := fun p => by
      by_cases hp : p.val < n
      · rw [if_pos hp, if_pos (by omega), if_neg (fun h => by rw [h] at hp; exact lt_irrefl n hp), add_zero]
      · by_cases hq : p = ⟨n, h1⟩
        · rw [if_neg hp, if_pos hq, if_pos (by rw [hq]; exact Nat.lt_succ_self n), zero_add]
        · rw [if_neg hp, if_neg hq, if_neg (fun h => hq (Fin.ext (by show p.val = n; omega))), add_zero]
    rw [Finset.sum_congr rfl fun p _ => e p, Finset.sum_add_distrib, Finset.sum_ite_eq' Finset.univ]
    simp

/-- The sum of a row's exponentials over the part of the weight that a device has. -/
def rs (c : Dev nD) (i : Fin 1024) : EReal := ∑ b : Fin 32, ∑ j : Fin 512, Ideal.exp (lg m c i b j)

theorem rowSum_at (c : Dev nD) (i : Fin 1024) (u : Fin 1) : rowSum (accV m c 32) (ix2 i u) = rs m c i := by
  refine (shapeCast_a_a1_apply _ _ i u).trans ?_
  have r : multiReduction .add [(1 : Fin S1024x512.rank)] S1024 (accV m c 32) 0x00000000#32 reduces_S1024x512_S1024 (.inl rfl) rfl (ix1 i)
      = ∑ k : Fin 512, accV m c 32 (reduces_S1024x512_S1024.lift (ix1 i) k) :=
    Ideal.multiReduction_add_single _ _ _ _ _ _
  refine r.trans ?_
  have e : ∀ j : Fin 512, accV m c 32 (reduces_S1024x512_S1024.lift (ix1 i) j)
      = ∑ p : Fin 32, Ideal.exp (lg m c i (wcol c p) j) := fun j => by
    have ej : (reduces_S1024x512_S1024.lift (ix1 i) j : S1024x512.Idx) = ix2 i j := by
      funext a; apply Fin.ext
      match a with
      | ⟨0, _⟩ => rfl
      | ⟨1, _⟩ => rfl
    rw [ej, accV_at m c i j 32 (le_refl _)]
    exact Finset.sum_congr rfl fun p _ => by rw [if_pos p.isLt, eV_at]
  refine (Finset.sum_congr rfl fun j _ => e j).trans ?_
  rw [Finset.sum_comm]
  exact Equiv.sum_comp (Function.Involutive.toPerm (wcol c) (wcol_wcol c)) fun b => ∑ j : Fin 512, Ideal.exp (lg m c i b j)

theorem sBuf_at (c : Dev nD) (i : Fin 1024) (l : Fin 128) : sBuf m c (ix2 i l) = rs m c i := by
  show shapeCast S1024x128 (broadcastTo S1024x128 (shapeCast S1024x1 (rowSum (accV m c 32)) shapeCasts_S1024x1_S1024x1)
    broadcasts_S1024x1_S1024x128) shapeCasts_S1024x128_S1024x128 (ix2 i l) = _
  rw [shapeCast_self, shapeCast_self]
  refine (broadcastTo_apply _ _ _ (ix2 i (0 : Fin 1)) fun a => ?_).trans (rowSum_at m c i 0)
  match a with
  | ⟨0, _⟩ => rfl
  | ⟨1, _⟩ => rfl

/-- The reciprocal: of the sum of the row over the whole weight. -/
theorem invV_at (c : Dev nD) (i : Fin 1024) (u : Fin 1) :
    invV m c (ix2 i u) = Ideal.div 1 (rs m c i + rs m (py c) i) := by
  show Ideal.div (Ideal.ofBits .f32 0x3F800000#32) (rowSum (accV m c 32) (ix2 i u) + sBuf m (py c) _) = _
  rw [Ideal.ofBits_one_f32, rowSum_at]
  congr 2
  refine Eq.trans ?_ (sBuf_at m (py c) i ⟨u.val, by omega⟩)
  congr 1
  funext a; apply Fin.ext
  match a with
  | ⟨0, _⟩ => show 0 + 1 * i.val = i.val; omega
  | ⟨1, _⟩ => show 0 + 1 * u.val = u.val; omega

/-! ## The tiles -/

theorem eBuf_at (c : Dev nD) (p : Fin 32) (i : Fin 1024) (j : Fin 512) :
    eBuf m c (ix3 p i j) = Ideal.exp (lg m c i (wcol c p) j) :=
  (shapeCast_ab_1ab_apply (a := 1024) (b := 512) _ _ (0 : Fin 1) i j).trans (eV_at m c p i j)

theorem invB_at (c : Dev nD) (i : Fin 1024) (j : Fin 512) :
    broadcastTo S1024x512 (invV m c) broadcasts_S1024x1_S1024x512 (ix2 i j) = Ideal.div 1 (rs m c i + rs m (py c) i) := by
  refine (broadcastTo_apply _ _ _ (ix2 i (0 : Fin 1)) fun a => ?_).trans (invV_at m c i 0)
  match a with
  | ⟨0, _⟩ => rfl
  | ⟨1, _⟩ => rfl

/-- A tile of this device's own exponentials. -/
theorem tv_own (c : Dev nD) (n : Fin 32) (h : Fin 2) (hn : n.val < 16) (i : Fin 1024) (j : Fin 512) :
    tv m c n h (ix2 i j)
      = Ideal.exp (lg m c i (wcol c ⟨2 * n.val + h.val, by have := h.isLt; omega⟩) j)
        * Ideal.div 1 (rs m c i + rs m (py c) i) := by
  rw [tv, dif_pos hn]
  show shapeCast S1024x512 _ shapeCasts_S1x1024x512_S1024x512 (ix2 i j)
    * broadcastTo S1024x512 (invV m c) broadcasts_S1024x1_S1024x512 (ix2 i j) = _
  rw [invB_at]
  congr 1
  refine (shapeCast_1ab_ab_apply (a := 1024) (b := 512) _ _ i j).trans ?_
  refine Eq.trans ?_ (eBuf_at m c ⟨2 * n.val + h.val, by have := h.isLt; omega⟩ i j)
  show eBuf m c _ = _
  congr 1
  funext a; apply Fin.ext
  match a with
  | ⟨0, _⟩ => show 2 * n.val + h.val + 1 * 0 = 2 * n.val + h.val; omega
  | ⟨1, _⟩ => show 0 + 1 * i.val = i.val; omega
  | ⟨2, _⟩ => show 0 + 1 * j.val = j.val; omega

theorem cast_drop_two {a b : ℕ} {α : Type} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An element of a slot of the read-backs. -/
def edAt (c : Dev nD) (q : Fin 16) (s h : Fin 2) (i : Fin 1024) (j : Fin 512) : EReal := edC m c q (ix4 s h i j)

theorem edR_emb (s h : Fin 2) (i : Fin 1024) (j : Fin 512) :
    (edR s h).emb (ix4 (0 : Fin 1) (0 : Fin 1) i j) = (ix4 s h i j : S2x2x1024x512.Idx) := by
  funext a; apply Fin.ext
  match a with
  | ⟨0, _⟩ => simp
  | ⟨1, _⟩ => simp
  | ⟨2, _⟩ => simp
  | ⟨3, _⟩ => simp

theorem scaleD_at (c : Dev nD) (q : Fin 16) (s h : Fin 2) (i : Fin 1024) (j : Fin 512) :
    scaleD (invV m c) (edM.view.readAt (Elt Ideal) (edR s h).toLoadRect (edC m c q)) (ix2 i j)
      = edAt m c q s h i j * Ideal.div 1 (rs m c i + rs m (py c) i) := by
  have e := cast_drop_two (a := 1024) (b := 512) (α := EReal)
    (edM.view.readAt (Elt Ideal) (edR s h).toLoadRect (edC m c q)) shapeCasts_S1x1x1024x512_S1024x512 i j
  have e2 : (edM.view.readAt (Elt Ideal) (edR s h).toLoadRect (edC m c q)) (ix4 (0 : Fin 1) (0 : Fin 1) i j)
      = edAt m c q s h i j := congrArg (edC m c q) (edR_emb s h i j)
  exact congrArg₂ (fun a b : EReal => a * b) (e.trans e2) (invB_at m c i j)

/-- A tile read back is what its slot holds. -/
theorem tv_back (c : Dev nD) (n : Fin 32) (h : Fin 2) (hn : ¬ n.val < 16) (i : Fin 1024) (j : Fin 512) :
    tv m c n h (ix2 i j)
      = edAt m c ⟨n.val - 16, by have := n.isLt; omega⟩ (par (n.val - 16)) h i j
        * Ideal.div 1 (rs m c i + rs m (py c) i) := by
  rw [tv, dif_neg hn]
  exact scaleD_at m c _ _ h i j

theorem ryBuf_at (c : Dev nD) (q : Fin 16) (i : Fin 1024) (j : Fin 512) :
    ryBuf m c (ix3 q i j)
      = Ideal.exp (lg m (py c) i (wcol (py c) ⟨q.val, by have := q.isLt; omega⟩) j) :=
  eBuf_at m (py c) ⟨q.val, by have := q.isLt; omega⟩ i j

/-- A tile of the exponentials got along `y`. -/
theorem tv_y (c : Dev nD) (n : Fin 32) (h : Fin 2) (h1 : 16 ≤ n.val) (h2 : n.val < 24) (i : Fin 1024) (j : Fin 512) :
    tv m c n h (ix2 i j)
      = Ideal.exp (lg m (py c) i (wcol (py c) ⟨2 * (n.val - 16) + h.val, by have := h.isLt; omega⟩) j)
        * Ideal.div 1 (rs m c i + rs m (py c) i) := by
  have hh := h.isLt
  rw [tv_back m c n h (by omega)]
  congr 1
  refine Eq.trans ?_ (ryBuf_at m c ⟨2 * (n.val - 16) + h.val, by omega⟩ i j)
  show dite _ _ _ = _
  rw [dif_pos (show n.val - 16 < 8 by omega)]
  show ryBuf m c _ = _
  congr 1
  funext a; apply Fin.ext
  match a with
  | ⟨0, _⟩ => show 2 * (n.val - 16) + 1 * h.val = 2 * (n.val - 16) + h.val; omega
  | ⟨1, _⟩ => show 0 + 1 * i.val = i.val; omega
  | ⟨2, _⟩ => show 0 + 1 * j.val = j.val; omega

/-- A tile of the exponentials forwarded along `z`. -/
theorem tv_z (c : Dev nD) (n : Fin 32) (h : Fin 2) (h1 : 24 ≤ n.val) (i : Fin 1024) (j : Fin 512) :
    tv m c n h (ix2 i j)
      = Ideal.exp (lg m (py (pz c)) i (wcol (py (pz c)) ⟨2 * (n.val - 24) + h.val, by
          have := h.isLt; have := n.isLt; omega⟩) j)
        * Ideal.div 1 (rs m c i + rs m (py c) i) := by
  have hh := h.isLt
  have hn := n.isLt
  rw [tv_back m c n h (by omega)]
  congr 1
  refine Eq.trans ?_ (ryBuf_at m (pz c) ⟨2 * (n.val - 24) + h.val, by omega⟩ i j)
  show dite _ _ _ = _
  rw [dif_neg (show ¬ n.val - 16 < 8 by omega)]
  show ryBuf m (pz c) _ = _
  congr 1
  funext a; apply Fin.ext
  match a with
  | ⟨0, _⟩ => show 2 * (n.val - 16 - 8) + 1 * h.val = 2 * (n.val - 24) + h.val; omega
  | ⟨1, _⟩ => show 0 + 1 * i.val = i.val; omega
  | ⟨2, _⟩ => show 0 + 1 * j.val = j.val; omega

end Cert.KernelIdeal.Run

end
-- ==== Proof.Whole.lean ====
/-
The output of a device, over the extended reals, from the whole weight: every tile holds the exponentials of the
logits of its own columns times the reciprocal of the sum of the row over all the columns.
-/
module

public import proofs.«01_k».proof.Proof.Value
public import Idealize.ShloMosaic.Lib.Layout

@[expose] public section

noncomputable section

namespace Cert.KernelIdeal.Run

open Idealize.ShloMosaic Idealize.ShloMosaic.TcCoe
open Idealize.SL Idealize.SL.Sem
open Idealize.ShloMosaic.ValueIdx
open Cert.KernelIdeal Facts₀ Facts
open scoped BigOperators

theorem py_coords (c : Dev nD) : (py c).val % 2 = c.val % 2 ∧ (py c).val / 2 % 2 = 1 - c.val / 2 % 2 := by
  revert c; decide
theorem pz_coords (c : Dev nD) : (pz c).val % 2 = 1 - c.val % 2 ∧ (pz c).val / 2 % 2 = c.val / 2 % 2 := by
  revert c; decide

/-- A logit: of row `i` and column `J` of the whole weight. -/
def logit (X : S1024x2048.Idx → EReal) (W : (⟨2, ![2048, 32768]⟩ : Shape).Idx → EReal) (i : Fin 1024) (J : Fin 32768) : EReal :=
  ∑ k : Fin 2048, X (ix2 i k) * W (ix2 k J)

/-- The columns of the whole weight are the columns of the blocks of the two halves. -/
theorem sum_columns (f : Fin 32768 → EReal) :
    ∑ J, f J = (∑ b : Fin 32, ∑ j : Fin 512, f ⟨512 * b.val + j.val, by have := b.isLt; have := j.isLt; omega⟩)
      + ∑ b : Fin 32, ∑ j : Fin 512, f ⟨16384 + 512 * b.val + j.val, by have := b.isLt; have := j.isLt; omega⟩ := by
  have e : ∀ g : Fin (32 * 512) → EReal, ∑ x, g x
      = ∑ b : Fin 32, ∑ j : Fin 512, g ⟨512 * b.val + j.val, by have := b.isLt; have := j.isLt; omega⟩ := fun g => by
    rw [← Equiv.sum_comp (finProdFinEquiv (m := 32) (n := 512)), Fintype.sum_prod_type]
    refine Finset.sum_congr rfl fun b _ => Finset.sum_congr rfl fun j _ => congrArg g (Fin.ext ?_)
    show j.val + 512 * b.val = 512 * b.val + j.val
    omega
  have h := Fin.sum_univ_add (a := 32 * 512) (b := 32 * 512) f
  refine h.trans ?_
  rw [e, e]
  refine congrArg₂ (· + ·) rfl ?_
  refine Finset.sum_congr rfl fun b _ => Finset.sum_congr rfl fun j _ => congrArg f (Fin.ext ?_)
  show 32 * 512 + (512 * b.val + j.val) = 16384 + 512 * b.val + j.val
  omega

set_option backward.proofsInPublic true in
/-- Each device has its half of the weight's columns: the one its `y` coordinate names. -/
def Laid (m : (ℓ : Loc nD τ sig) → Buf (Elt Ideal) ℓ) (W : (⟨2, ![2048, 32768]⟩ : Shape).Idx → EReal) : Prop :=
  ∀ c : Dev nD, m (c.tc.loc main_arg1)
    = Layout.blockN ⟨2, ![2048, 16384]⟩ ⟨2, ![2048, 32768]⟩ (Layout.meshBlock [2, 2, 2] ![[], [1]] c) W

section
variable (m : (ℓ : Loc nD τ sig) → Buf (Elt Ideal) ℓ)
variable (X : S1024x2048.Idx → EReal) (W : (⟨2, ![2048, 32768]⟩ : Shape).Idx → EReal)
variable (hX : ∀ c : Dev nD, m (c.tc.loc main_arg0) = X)
variable (hW : Laid m W)
include hW

theorem wght_at (c : Dev nD) (k : Fin 2048) (j : Fin 16384) :
    wght m c (ix2 k j) = W (ix2 k ⟨16384 * (c.val / 2 % 2) + j.val, by have := j.isLt; omega⟩) := by
  refine (congrFun (hW c) (ix2 k j)).trans ?_
  rw [Layout.blockN_apply]
  congr 1
  funext a; apply Fin.ext
  rw [Layout.TilesN.idx_val, Layout.meshBlock_val]
  match a with
  | ⟨0, _⟩ => show 0 * 2048 + k.val = k.val; omega
  | ⟨1, _⟩ =>
    show (c.val / 2 % 2 * 1 + 0) * 16384 + j.val = 16384 * (c.val / 2 % 2) + j.val
    omega

include hX

theorem lg_at (c : Dev nD) (i : Fin 1024) (b : Fin 32) (j : Fin 512) :
    lg m c i b j = logit X W i ⟨16384 * (c.val / 2 % 2) + 512 * b.val + j.val, by
      have := b.isLt; have := j.isLt; omega⟩ := by
  refine Finset.sum_congr rfl fun k _ => congrArg₂ (· * ·) (congrFun (hX c) (ix2 i k)) ?_
  rw [wght_at m W hW]
  congr 2
  apply Fin.ext
  show 16384 * (c.val / 2 % 2) + (512 * b.val + j.val) = 16384 * (c.val / 2 % 2) + 512 * b.val + j.val
  omega

/-- The two devices of a pair along `y` have the whole row between them. -/
theorem rs_pair (c : Dev nD) (i : Fin 1024) :
    rs m c i + rs m (py c) i = ∑ J, Ideal.exp (logit X W i J) := by
  have e0 : ∀ d : Dev nD, d.val / 2 % 2 = 0 → rs m d i = ∑ b : Fin 32, ∑ j : Fin 512,
      Ideal.exp (logit X W i ⟨512 * b.val + j.val, by have := b.isLt; have := j.isLt; omega⟩) := fun d hq =>
    Finset.sum_congr rfl fun b _ => Finset.sum_congr rfl fun j _ => by
      rw [lg_at m X W hX hW]
      refine congrArg (fun J => Ideal.exp (logit X W i J)) (Fin.ext ?_)
      show 16384 * (d.val / 2 % 2) + 512 * b.val + j.val = 512 * b.val + j.val
      rw [hq]; omega
  have e1 : ∀ d : Dev nD, d.val / 2 % 2 = 1 → rs m d i = ∑ b : Fin 32, ∑ j : Fin 512,
      Ideal.exp (logit X W i ⟨16384 + 512 * b.val + j.val, by have := b.isLt; have := j.isLt; omega⟩) := fun d hq =>
    Finset.sum_congr rfl fun b _ => Finset.sum_congr rfl fun j _ => by
      rw [lg_at m X W hX hW]
      refine congrArg (fun J => Ideal.exp (logit X W i J)) (Fin.ext ?_)
      show 16384 * (d.val / 2 % 2) + 512 * b.val + j.val = 16384 + 512 * b.val + j.val
      rw [hq]
  have h := py_coords c
  refine Eq.trans ?_ (sum_columns fun J => Ideal.exp (logit X W i J)).symm
  have hq : c.val / 2 % 2 = 0 ∨ c.val / 2 % 2 = 1 := by omega
  rcases hq with hq | hq
  · rw [e0 c hq, e1 (py c) (by rw [h.2, hq])]
  · rw [e1 c hq, e0 (py c) (by rw [h.2, hq]), add_comm]

/-- The output. -/
theorem outBuf_at (c : Dev nD) (i : Fin 1024) (J : Fin 32768) :
    outBuf m c (ix2 i J) = Ideal.exp (logit X W i J) * Ideal.div 1 (∑ K, Ideal.exp (logit X W i K)) := by
  have hc : c.val < 8 := c.isLt
  have hJ := J.isLt
  show tv m c (tcol c ⟨J.val / 1024, by omega⟩) ⟨J.val % 1024 / 512, by omega⟩
    (ix2 i (⟨J.val % 1024 % 512, Nat.mod_lt _ (by decide)⟩ : Fin 512)) = _
  have ht : (tcol c ⟨J.val / 1024, by omega⟩).val
    = 16 * ((c.val / 2 % 2 + J.val / 1024 / 16) % 2) + 8 * ((c.val % 2 + J.val / 1024 / 8 % 2) % 2) + J.val / 1024 % 8 := rfl
  generalize tcol c ⟨J.val / 1024, by omega⟩ = n at ht
  have hn := n.isLt
  obtain ⟨z, y, hz, hy, ez, ey⟩ : ∃ z y : ℕ, z < 2 ∧ y < 2 ∧ c.val % 2 = z ∧ c.val / 2 % 2 = y :=
    ⟨_, _, by omega, by omega, rfl, rfl⟩
  rw [ez, ey] at ht
  by_cases h1 : n.val < 16
  · rw [tv_own m c n _ h1, rs_pair m X W hX hW, lg_at m X W hX hW]
    congr 3
    apply Fin.ext
    simp only [wcol, ez, ey]
    omega
  by_cases h2 : n.val < 24
  · rw [tv_y m c n _ (by omega) h2, rs_pair m X W hX hW, lg_at m X W hX hW]
    congr 3
    apply Fin.ext
    simp only [wcol, (py_coords c).1, (py_coords c).2, ez, ey]
    omega
  · rw [tv_z m c n _ (by omega), rs_pair m X W hX hW, lg_at m X W hX hW]
    congr 3
    apply Fin.ext
    simp only [wcol, (py_coords (pz c)).1, (py_coords (pz c)).2, (pz_coords c).1, (pz_coords c).2, ez, ey]
    omega

end

end Cert.KernelIdeal.Run

end
-- ==== Proof.Finite.lean ====
/-
What the precondition gives: the arguments are of reals, on every device and so the whole weight.
-/
module

public import proofs.«01_k».proof.Proof.Whole

@[expose] public section

noncomputable section

namespace Cert.KernelIdeal.Run

open Idealize.ShloMosaic Idealize.ShloMosaic.TcCoe
open Idealize.SL Idealize.SL.Sem
open Idealize.ShloMosaic.ValueIdx
open Cert.KernelIdeal

theorem facts_finite : Cert.Pre_finite_KernelIdeal.Facts := ⟨by decide, by decide, by decide⟩
theorem facts_finite_ref : Cert.Pre_finite_ReferenceIdeal.Facts := ⟨by decide, by decide, by decide⟩

/-- The comparison of an absolute value with infinity says that the value is a real. -/
theorem real_of_cmp {x : EReal}
    (h : BitVec.ofBool (decide (max x (-x) < Ideal.ofBits .f32 0x7F800000#32)) = 1#1) : ∃ r : ℝ, x = (r : EReal) := by
  rw [ofBits_inf] at h
  refine real_of_abs_lt ?_
  by_contra hn
  rw [decide_eq_false hn] at h
  exact absurd h (by decide)

variable (m : (ℓ : Loc nD τ sig) → Buf (Elt Ideal) ℓ)

theorem actv_real (h : @Cert.Pre_KernelIdeal_finite_KernelIdeal facts_finite m) (c : Dev nD) (a : S1024x2048.Idx) :
    ∃ r : ℝ, actv m c a = (r : EReal) := real_of_cmp (congrFun (h c).1 a)
theorem wght_real (h : @Cert.Pre_KernelIdeal_finite_KernelIdeal facts_finite m) (c : Dev nD) (a : S2048x16384.Idx) :
    ∃ r : ℝ, wght m c a = (r : EReal) := real_of_cmp (congrFun (h c).2 a)

/-- Every column of the weight lies on some device. -/
theorem whole_real (h : @Cert.Pre_KernelIdeal_finite_KernelIdeal facts_finite m)
    (W : (⟨2, ![2048, 32768]⟩ : Shape).Idx → EReal)
    (hW : Laid m W)
    (a : (⟨2, ![2048, 32768]⟩ : Shape).Idx) : ∃ r : ℝ, W a = (r : EReal) := by
  obtain ⟨k, J, rfl⟩ := ex2 (a := 2048) (b := 32768) a
  have hJ := J.isLt
  have hd : 2 * (J.val / 16384) < 8 := by omega
  have hj : J.val % 16384 < 16384 := Nat.mod_lt _ (by decide)
  obtain ⟨r, hr⟩ := wght_real m h ⟨2 * (J.val / 16384), hd⟩ (ix2 k (⟨J.val % 16384, hj⟩ : Fin 16384))
  refine ⟨r, Eq.trans (congrArg (fun K => W (ix2 k K)) (Fin.ext ?_)) ((wght_at m W hW _ k ⟨J.val % 16384, hj⟩).symm.trans hr)⟩
  show J.val = 16384 * (2 * (J.val / 16384) / 2 % 2) + J.val % 16384
  omega

end Cert.KernelIdeal.Run

end
-- ==== Proof.Refer.lean ====
/-
The reference read at an index, over the extended reals, for arguments of reals; and the two sides agree there.
-/
module

public import proofs.«01_k».proof.Proof.Whole
public import proofs.«01_k».proof.Proof.Gen.ReferenceIdeal.Read
public import Idealize.ShloMosaic.Lib.KernelVsHost

@[expose] public section

noncomputable section

namespace Cert.KernelIdeal.Run

open Idealize.ShloMosaic Idealize.ShloMosaic.TcCoe
open Idealize.SL Idealize.SL.Sem
open Idealize.ShloMosaic.ValueIdx
open Cert.ReferenceIdeal.Read
open scoped BigOperators

variable (X : (⟨2, ![1024, 2048]⟩ : Shape).Idx → EReal) (W : (⟨2, ![2048, 32768]⟩ : Shape).Idx → EReal)

/-- The logits of real arguments are reals. -/
theorem logit_real (hX : ∀ a, ∃ r : ℝ, X a = (r : EReal)) (hW : ∀ a, ∃ r : ℝ, W a = (r : EReal)) :
    ∃ l : Fin 1024 → Fin 32768 → ℝ, ∀ i J, logit X W i J = (l i J : EReal) := by
  choose x hx using hX
  choose w hw using hW
  refine ⟨fun i J => ∑ k : Fin 2048, x (ix2 i k) * w (ix2 k J), fun i J => ?_⟩
  rw [← coe_sum]
  refine Finset.sum_congr rfl fun k _ => ?_
  rw [hx, hw, EReal.coe_mul]

theorem ref_logit (i : Fin 1024) (J : Fin 32768) : val_main_v1 (F := Ideal) X W (ix2 i J) = logit X W i J := by
  rw [val_main_v1_apply]
  refine Finset.sum_congr rfl fun k _ => congrArg₂ (fun a b : EReal => a * b) (congrArg X ?_) (congrArg W ?_)
  · funext a; match a with
    | ⟨0, _⟩ => rfl
    | ⟨1, _⟩ => rfl
  · funext a; match a with
    | ⟨0, _⟩ => rfl
    | ⟨1, _⟩ => rfl

/-- The reference's row maximum of real logits is a real. -/
theorem ref_max (l : Fin 1024 → Fin 32768 → ℝ) (hl : ∀ i J, logit X W i J = (l i J : EReal)) (i : Fin 1024) :
    ∃ M : ℝ, val_main_v2 (F := Ideal) X W (ix1 i) = (M : EReal) := by
  have hr : (⟨2, ![1024, 32768]⟩ : Shape).Reduces [1] ⟨1, ![1024]⟩ := by decide
  have e : val_main_v2 (F := Ideal) X W (ix1 i)
      = (Finset.univ : Finset (Fin 32768)).fold max (⊥ : EReal) fun J => (l i J : EReal) := by
    have e1 := hostReduce_maximumf_eq_multiReduction (F := Ideal) (φ := .f32) (val_main_v1 (F := Ideal) X W) 0xFF800000#32
      Cert.ReferenceIdeal.Gen.reducesTo_S1024x32768_S1024_d1 Cert.ReferenceIdeal.Gen.h_S_ hr (.inl rfl) rfl
    have e2 := Ideal.multiReduction_maximumf_single (φ := .f32) (val_main_v1 (F := Ideal) X W) 0xFF800000#32 hr (.inl rfl) rfl (ix1 i)
    refine (congrFun e1 (ix1 i)).trans (e2.trans ?_)
    rw [show (FloatOps.ofBits .f32 0xFF800000#32 : Ideal .f32) = (⊥ : EReal) from ofBits_neg_inf]
    refine congrArg (fun f => (Finset.univ : Finset (Fin 32768)).fold max (⊥ : EReal) f) (funext fun J => ?_)
    refine Eq.trans (congrArg (val_main_v1 (F := Ideal) X W) ?_) ((ref_logit X W i J).trans (hl i J))
    funext a; apply Fin.ext
    match a with
    | ⟨0, _⟩ => rfl
    | ⟨1, _⟩ => rfl
  rcases fold_max_real (Finset.univ : Finset (Fin 32768)) (l i) with h | ⟨M, hM⟩
  · exact absurd (Finset.mem_univ (0 : Fin 32768)) (by rw [h]; simp)
  · exact ⟨M, e.trans hM⟩

/-- The reference's exponential. -/
theorem ref_exp (i : Fin 1024) (J : Fin 32768) :
    val_main_v6 (F := Ideal) X W (ix2 i J)
      = Ideal.exp (logit X W i J - (val_main_v2 (F := Ideal) X W (ix1 i) : EReal)) := by
  rw [val_main_v6_apply, val_main_v5_apply, ref_logit, val_main_v4_apply, val_main_v3_apply]
  have ei : idx_main_v3 (idx_main_v4 (ix2 i J)) = ix1 i := by
    funext a; match a with
    | ⟨0, _⟩ => rfl
  rw [ei]; rfl

/-- The reference's output. -/
theorem ref_out (l : Fin 1024 → Fin 32768 → ℝ) (hl : ∀ i J, logit X W i J = (l i J : EReal)) (i : Fin 1024) (J : Fin 32768) :
    val_main_v11 (F := Ideal) X W (ix2 i J)
      = Ideal.exp (logit X W i J) * Ideal.div 1 (∑ K, Ideal.exp (logit X W i K)) := by
  obtain ⟨M, hM⟩ := ref_max X W l hl i
  have e9 : val_main_v9 (F := Ideal) X W (ix2 i J) = ∑ K : Fin 32768, Ideal.exp ((l i K : EReal) - (M : EReal)) := by
    rw [val_main_v9_apply, val_main_v8_apply, val_main_v7_apply, val_main_cst_0_apply]
    rw [show (FloatOps.ofBits .f32 0x00000000#32 : Ideal .f32) = (0 : EReal) from Ideal.ofBits_zero_f32]
    refine (zero_add _).trans (Finset.sum_congr rfl fun K _ => ?_)
    have ei : idx_main_v7 (idx_main_v8 (idx_main_v9 (ix2 i J))) K = ix2 i K := by
      funext a; match a with
      | ⟨0, _⟩ => rfl
      | ⟨1, _⟩ => rfl
    rw [ei, ref_exp, hM, hl]
  rw [val_main_v11_apply, val_main_v10_apply]
  show Ideal.div (val_main_v6 (F := Ideal) X W (ix2 i J)) (val_main_v9 (F := Ideal) X W (ix2 i J)) = _
  rw [e9, ref_exp, hM, hl]
  simp only [hl]
  exact (soft_shift (l i) M J).symm

end Cert.KernelIdeal.Run

end
-- ==== Proof.lean ====
/- The claims, each from the run that shows it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Same
public import proofs.«01_k».proof.Proof.Finite
public import proofs.«01_k».proof.Proof.Refer

@[expose] public section

noncomputable section

namespace Cert.Proof

open Idealize.ShloMosaic Idealize.SL.Sem

/-- The idealized kernel's frame. -/
theorem frame_ideal : Cert.quiescent_KernelIdeal := fun m ρ _ =>
  (θ_run Cert.KernelIdeal.defs _ _).mono (fun _ h => ⟨fun c => (h.1 c).2, h.2⟩) (Cert.KernelIdeal.Run.run_main (F := Ideal) m ρ)

set_option maxRecDepth 100000 in
/-- The kernel's frame over machine words: its text is the idealized one's, whose run was shown for
    any reading of the floats. -/
theorem frame_kernel : Cert.quiescent_Kernel := fun m ρ _ => by
  rw [same_defs]
  exact (θ_run Cert.KernelIdeal.defs _ _).mono (fun _ h => ⟨fun c => (h.1 c).2, h.2⟩)
    (Cert.KernelIdeal.Run.run_main (F := Bits) m ρ)

/-- The reference's frame: it has no semaphore at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel's result is the reference's, for finite arguments. -/
theorem same_result : @Cert.algebraic_KernelIdeal_ReferenceIdeal_pre_finite_KernelIdeal
    Cert.KernelIdeal.Gen.facts Cert.ReferenceIdeal.Gen.facts Cert.KernelIdeal.Run.facts_finite := fun m g m' g' hp hm => by
  refine ⟨Cert.ReferenceIdeal.Read.val_main_v11 (F := Ideal) _ _, ?_,
    (θ_run Cert.ReferenceIdeal.defs _ _).mono (fun r h => h 0) (Cert.ReferenceIdeal.Value.run (F := Ideal) m' g')⟩
  refine (θ_run Cert.KernelIdeal.defs _ _).mono (fun r h c => ⟨(h.1 c).1.trans ?_, (h.1 c).2⟩)
    (Cert.KernelIdeal.Run.run_main (F := Ideal) m g)
  have hX := fun c => (hm c).1
  have hW := fun c => (hm c).2
  obtain ⟨l, hl⟩ := Cert.KernelIdeal.Run.logit_real _ _
    (fun a => let ⟨t, ht⟩ := Cert.KernelIdeal.Run.actv_real m hp 0 a; ⟨t, (congrFun (hX 0) a).symm.trans ht⟩)
    (Cert.KernelIdeal.Run.whole_real m hp _ hW)
  funext x
  obtain ⟨i, J, rfl⟩ := Cert.KernelIdeal.Run.ex2 (a := 1024) (b := 32768) x
  exact (Cert.KernelIdeal.Run.outBuf_at m _ _ hX hW c i J).trans (Cert.KernelIdeal.Run.ref_out _ _ l hl i J).symm

theorem claim : Cert.Claim := ⟨Cert.Kernel.Gen.facts, Cert.KernelIdeal.Gen.facts, Cert.ReferenceIdeal.Gen.facts,
  Cert.KernelIdeal.Run.facts_finite, Cert.KernelIdeal.Run.facts_finite_ref,
  frame_kernel, frame_ideal, fun m ρ _ => frame_ideal m ρ ⟨⟩, frame_reference, fun m ρ _ => frame_reference m ρ ⟨⟩, trivial,
  same_result⟩

end Cert.Proof

end
